-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_routed := hPre_routed)
-- ==== Pre_finite.lean ====
abbrev S8x4096x8x64 : Shape := ⟨4, ![8, 4096, 8, 64]⟩
abbrev S8x4096x2x64 : Shape := ⟨4, ![8, 4096, 2, 64]⟩
abbrev S8x256x2x64 : Shape := ⟨4, ![8, 256, 2, 64]⟩
abbrev S8 : Shape := ⟨1, ![8]⟩
abbrev S512 : Shape := ⟨1, ![512]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x4096x2x64 : S_.BroadcastsInDim S8x4096x2x64 (![] : Fin 0 → Fin S8x4096x2x64.rank)
  reducesTo_S8x4096x2x64_S_d0_1_2_3 : S8x4096x2x64.ReducesTo [0, 1, 2, 3] S_
  bcast_S_S8x256x2x64 : S_.BroadcastsInDim S8x256x2x64 (![] : Fin 0 → Fin S8x256x2x64.rank)
  reducesTo_S8x256x2x64_S_d0_1_2_3 : S8x256x2x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S8x4096x8x64 .f32) (main_arg1 : FVec F S8x4096x2x64 .f32) (main_arg2 : FVec F S8x4096x2x64 .f32) (main_arg3 : FVec F S8x256x2x64 .f32) (main_arg4 : FVec F S8x256x2x64 .f32) (main_arg5 : FVec F S8 .f32) (main_arg6 : FVec F S512 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x2x64 .f32 := Host.absf main_arg1
  let main_cst_0 : FVec F S_ .f32 := constant S_ .f32 0x7F800000#32
  let main_v5 : FVec F S8x4096x2x64 .f32 := broadcastInDim S8x4096x2x64 ![] bcast_S_S8x4096x2x64 main_cst_0
  let main_v6 : IVec S8x4096x2x64 1 := cmpf .olt main_v4 main_v5
  let main_c_1 : IVec S_ 1 := constantI S_ 1 1#1
  let main_v7 : IVec S_ 1 := (fun x v => Host.reduce IntOp.andi x v reducesTo_S8x4096x2x64_S_d0_1_2_3 h_S_) main_v6 main_c_1
  let main_v8 : IVec S_ 1 := andi main_v3 main_v7
  let main_v9 : FVec F S8x256x2x64 .f32 := Host.absf main_arg3
  let main_cst_2 : FVec F S_ .f32 := constant S_ .f32 0x7F800000#32
  let main_v10 : FVec F S8x256x2x64 .f32 := broadcastInDim S8x256x2x64 ![] bcast_S_S8x256x2x64 main_cst_2
  let main_v11 : IVec S8x256x2x64 1 := cmpf .olt main_v9 main_v10
  let main_c_3 : IVec S_ 1 := constantI S_ 1 1#1
  let main_v12 : IVec S_ 1 := (fun x v => Host.reduce IntOp.andi x v reducesTo_S8x256x2x64_S_d0_1_2_3 h_S_) main_v11 main_c_3
  let main_v13 : IVec S_ 1 := andi main_v8 main_v12
  let main_v14 : FVec F S8 .f32 := Host.absf main_arg5
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Pre_routed.lean ====
abbrev S288 : Shape := ⟨1, ![288]⟩
abbrev S1 : Shape := ⟨1, ![1]⟩
abbrev S1179648x128 : Shape := ⟨2, ![1179648, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S288 32) (main_arg1 : IVec S1 32) (main_arg2 : FVec F S1179648x128 .f32) (main_arg3 : FVec F S32x1024x2048 .f32) (main_arg4 : FVec F S32x1x2048 .f32) (main_arg5 : FVec F S32x1024x1024 .f32) (main_arg6 : FVec F S32x1x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 1 := constantI S_ 1 1#1
  let main_v2 : IVec S_ 1 := (fun x v => Host.reduce IntOp.andi x v reducesTo_S288_S_d0 h_S_) main_v1 main_c_0
  let main_c_1 : IVec S_ 32 := constantI S_ 32 32#32
  let main_v3 : IVec S288 32 := broadcastInDim S288 ![] bcast_S_S288 main_c_1
  let main_v4 : IVec S288 1 := cmpi .slt main_arg0 main_v3
  let main_c_2 : IVec S_ 1 := constantI S_ 1 1#1
  let main_v5 : IVec S_ 1 := (fun x v => Host.reduce IntOp.andi x v reducesTo_S288_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Kernel.lean ====
abbrev S8x4096x8x64 : Shape := ⟨4, ![8, 4096, 8, 64]⟩
abbrev S8x4096x2x64 : Shape := ⟨4, ![8, 4096, 2, 64]⟩
abbrev S8x256x2x64 : Shape := ⟨4, ![8, 256, 2, 64]⟩
abbrev S8 : Shape := ⟨1, ![8]⟩
abbrev S512 : Shape := ⟨1, ![512]⟩
abbrev S8x4096x512 : Shape := ⟨3, ![8, 4096, 512]⟩
abbrev S_ : Shape := ⟨0, ![]⟩
abbrev S8x4096x1x64 : Shape := ⟨4, ![8, 4096, 1, 64]⟩
abbrev S8x4096x64 : Shape := ⟨3, ![8, 4096, 64]⟩
abbrev S8x4096x256 : Shape := ⟨3, ![8, 4096, 256]⟩
abbrev S8x256x1x64 : Shape := ⟨4, ![8, 256, 1, 64]⟩
abbrev S8x256x64 : Shape := ⟨3, ![8, 256, 64]⟩
abbrev S8x256x256 : Shape := ⟨3, ![8, 256, 256]⟩
abbrev S1x512 : Shape := ⟨2, ![1, 512]⟩
abbrev S1x4096x512 : Shape := ⟨3, ![1, 4096, 512]⟩
abbrev S1x4096x256 : Shape := ⟨3, ![1, 4096, 256]⟩
abbrev S1x256x256 : Shape := ⟨3, ![1, 256, 256]⟩
abbrev S128x512 : Shape := ⟨2, ![128, 512]⟩
abbrev S256x128 : Shape := ⟨2, ![256, 128]⟩
abbrev S640x128 : Shape := ⟨2, ![640, 128]⟩
abbrev S256x1 : Shape := ⟨2, ![256, 1]⟩
abbrev S1x128x128 : Shape := ⟨3, ![1, 128, 128]⟩
abbrev S128x128 : Shape := ⟨2, ![128, 128]⟩
abbrev S1x256x128 : Shape := ⟨3, ![1, 256, 128]⟩
abbrev S1 : Shape := ⟨1, ![1]⟩
abbrev S256x640 : Shape := ⟨2, ![256, 640]⟩
abbrev S256x256 : Shape := ⟨2, ![256, 256]⟩
abbrev S256 : Shape := ⟨1, ![256]⟩
abbrev S128 : Shape := ⟨1, ![128]⟩
abbrev S128x1 : Shape := ⟨2, ![128, 1]⟩
abbrev S1x128x512 : Shape := ⟨3, ![1, 128, 512]⟩

abbrev nBuf : Space → Nat
  | .hbm => 57
  | .vmem => 14
  | .smem => 1
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x256x2x64, .f32⟩
  | .hbm, ⟨4, _⟩ => ⟨S8x256x2x64, .f32⟩
  | .hbm, ⟨5, _⟩ => ⟨S8, .f32⟩
  | .hbm, ⟨6, _⟩ => ⟨S512, .f32⟩
  | .hbm, ⟨7, _⟩ => ⟨S8x4096x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x4096x512, .f32⟩
  | .hbm, ⟨13, _⟩ => ⟨S8x4096x512, .f32⟩
  | .hbm, ⟨14, _⟩ => ⟨S8x4096x512, .bf16⟩
  | .hbm, ⟨15, _⟩ => ⟨S8x4096x1x64, .f32⟩
  | .hbm, ⟨16, _⟩ => ⟨S8x4096x64, .f32⟩
  | .hbm, ⟨17, _⟩ => ⟨S8x4096x1x64, .f32⟩
  | .hbm, ⟨18, _⟩ => ⟨S8x4096x64, .f32⟩
  | .hbm, ⟨19, _⟩ => ⟨S8x4096x1x64, .f32⟩
  | .hbm, ⟨20, _⟩ => ⟨S8x4096x64, .f32⟩
  | .hbm, ⟨21, _⟩ => ⟨S8x4096x1x64, .f32⟩
  | .hbm, ⟨22, _⟩ => ⟨S8x4096x64, .f32⟩
  | .hbm, ⟨23, _⟩ => ⟨S8x4096x256, .f32⟩
  | .hbm, ⟨24, _⟩ => ⟨S8x4096x256, .bf16⟩
  | .hbm, ⟨25, _⟩ => ⟨S8x4096x1x64, .f32⟩
  | .hbm, ⟨26, _⟩ => ⟨S8x4096x64, .f32⟩
  | .hbm, ⟨27, _⟩ => ⟨S8x4096x1x64, .f32⟩
  | .hbm, ⟨28, _⟩ => ⟨S8x4096x64, .f32⟩
  | .hbm, ⟨29, _⟩ => ⟨S8x4096x1x64, .f32⟩
  | .hbm, ⟨30, _⟩ => ⟨S8x4096x64, .f32⟩
  | .hbm, ⟨31, _⟩ => ⟨S8x4096x1x64, .f32⟩
  | .hbm, ⟨32, _⟩ => ⟨S8x4096x64, .f32⟩
  | .hbm, ⟨33, _⟩ => ⟨S8x4096x256, .f32⟩
  | .hbm, ⟨34, _⟩ => ⟨S8x4096x256, .bf16⟩
  | .hbm, ⟨35, _⟩ => ⟨S8x256x1x64, .f32⟩
  | .hbm, ⟨36, _⟩ => ⟨S8x256x64, .f32⟩
  | .hbm, ⟨37, _⟩ => ⟨S8x256x1x64, .f32⟩
  | .hbm, ⟨38, _⟩ => ⟨S8x256x64, .f32⟩
  | .hbm, ⟨39, _⟩ => ⟨S8x256x1x64, .f32⟩
  | .hbm, ⟨40, _⟩ => ⟨S8x256x64, .f32⟩
  | .hbm, ⟨41, _⟩ => ⟨S8x256x1x64, .f32⟩
  | .hbm, ⟨42, _⟩ => ⟨S8x256x64, .f32⟩
  | .hbm, ⟨43, _⟩ => ⟨S8x256x256, .f32⟩
  | .hbm, ⟨44, _⟩ => ⟨S8x256x256, .bf16⟩
  | .hbm, ⟨45, _⟩ => ⟨S8x256x1x64, .f32⟩
  | .hbm, ⟨46, _⟩ => ⟨S8x256x64, .f32⟩
  | .hbm, ⟨47, _⟩ => ⟨S8x256x1x64, .f32⟩
  | .hbm, ⟨48, _⟩ => ⟨S8x256x64, .f32⟩
  | .hbm, ⟨49, _⟩ => ⟨S8x256x1x64, .f32⟩
  | .hbm, ⟨50, _⟩ => ⟨S8x256x64, .f32⟩
  | .hbm, ⟨51, _⟩ => ⟨S8x256x1x64, .f32⟩
  | .hbm, ⟨52, _⟩ => ⟨S8x256x64, .f32⟩
  | .hbm, ⟨53, _⟩ => ⟨S8x256x256, .f32⟩
  | .hbm, ⟨54, _⟩ => ⟨S8x256x256, .bf16⟩
  | .hbm, ⟨55, _⟩ => ⟨S1x512, .f32⟩
  | .hbm, ⟨56, _⟩ => ⟨S8x4096x512, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x512, .f32⟩
  | .local _ .vmem, ⟨11, _⟩ => ⟨S1x4096x512, .bf16⟩
  | .local _ .vmem, ⟨12, _⟩ => ⟨S1x4096x512, .bf16⟩
  | .local _ .vmem, ⟨13, _⟩ => ⟨S128x512, .f32⟩
  | .local _ .smem, ⟨0, _⟩ => ⟨S8, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c128_i32_7 : BitVec 32 := 128#32
  let v26 : BitVec 32 := Scalar.muli arg10 c128_i32_7
  v26
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c1_i32_8 : BitVec 32 := 1#32
  let v28 : BitVec 32 := Scalar.subi arg10 c1_i32_8
  let c0_i32_9 : BitVec 32 := 0#32
  let v29 : BitVec 32 := Scalar.maxsi v28 c0_i32_9
  let c128_i32_10 : BitVec 32 := 128#32
  let v30 : BitVec 32 := Scalar.muli v29 c128_i32_10
  v30
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c1_i32_11 : BitVec 32 := 1#32
  let v32 : BitVec 32 := Scalar.addi arg10 c1_i32_11
  let c31_i32 : BitVec 32 := 31#32
  let v33 : BitVec 32 := Scalar.minsi v32 c31_i32
  let c128_i32_12 : BitVec 32 := 128#32
  let v34 : BitVec 32 := Scalar.muli v33 c128_i32_12
  v34
def k0_off1 (k0_t1 : Fin k0_t1_loop.trips) : Fin 3 → Nat :=
  let c0 : Index := 0#32
  let c0_i32 : BitVec 32 := 0#32
  let c1_i32 : BitVec 32 := 1#32
  let arg10 : BitVec 32 := Scf.iv c0_i32 c1_i32 k0_t1
  let c1_i32_8 : BitVec 32 := 1#32
  let v28 : BitVec 32 := Scalar.subi arg10 c1_i32_8
  let c0_i32_9 : BitVec 32 := 0#32
  let v29 : BitVec 32 := Scalar.maxsi v28 c0_i32_9
  let c128_i32_10 : BitVec 32 := 128#32
  let v30 : BitVec 32 := Scalar.muli v29 c128_i32_10
  let v31 : BitVec 32 := v30
  let v46 : Index := Scalar.indexCast v31
  let c0_19 : Index := 0#32
  ![0, v46.toNat, 0]
def k0_off2 (k0_t1 : Fin k0_t1_loop.trips) : Fin 3 → Nat :=
  let c0_20 : Index := 0#32
  let c0_i32 : BitVec 32 := 0#32
  let c1_i32 : BitVec 32 := 1#32
  let arg10 : BitVec 32 := Scf.iv c0_i32 c1_i32 k0_t1
  let c128_i32_7 : BitVec 32 := 128#32
  let v26 : BitVec 32 := Scalar.muli arg10 c128_i32_7
  let v27 : BitVec 32 := v26
  let v49 : Index := Scalar.indexCast v27
  let c0_21 : Index := 0#32
  ![0, v49.toNat, 0]
def k0_off3 (k0_t1 : Fin k0_t1_loop.trips) : Fin 3 → Nat :=
  let c0_22 : Index := 0#32
  let c0_i32 : BitVec 32 := 0#32
  let c1_i32 : BitVec 32 := 1#32
  let arg10 : BitVec 32 := Scf.iv c0_i32 c1_i32 k0_t1
  let c1_i32_11 : BitVec 32 := 1#32
  let v32 : BitVec 32 := Scalar.addi arg10 c1_i32_11
  let c31_i32 : BitVec 32 := 31#32
  let v33 : BitVec 32 := Scalar.minsi v32 c31_i32
  let c128_i32_12 : BitVec 32 := 128#32
  let v34 : BitVec 32 := Scalar.muli v33 c128_i32_12
  let v35 : BitVec 32 := v34
  let v52 : Index := Scalar.indexCast v35
  let c0_23 : Index := 0#32
  ![0, v52.toNat, 0]
def k0_off4 (k0_t1 : Fin k0_t1_loop.trips) : Fin 3 → Nat :=
  let c0_36 : Index := 0#32
  let c0_i32 : BitVec 32 := 0#32
  let c1_i32 : BitVec 32 := 1#32
  let arg10 : BitVec 32 := Scf.iv c0_i32 c1_i32 k0_t1
  let c128_i32_7 : BitVec 32 := 128#32
  let v26 : BitVec 32 := Scalar.muli arg10 c128_i32_7
  let v27 : BitVec 32 := v26
  let v70 : Index := Scalar.indexCast v27
  let c0_37 : Index := 0#32
  ![0, v70.toNat, 0]
def k0_off5 (k0_t1 : Fin k0_t1_loop.trips) : Fin 3 → Nat :=
  let c0_38 : Index := 0#32
  let c0_i32 : BitVec 32 := 0#32
  let c1_i32 : BitVec 32 := 1#32
  let arg10 : BitVec 32 := Scf.iv c0_i32 c1_i32 k0_t1
  let c128_i32_7 : BitVec 32 := 128#32
  let v26 : BitVec 32 := Scalar.muli arg10 c128_i32_7
  let v27 : BitVec 32 := v26
  let v73 : Index := Scalar.indexCast v27
  let c128 : Index := 128#32
  ![0, v73.toNat, 128]
def k0_off6 (k0_t1 : Fin k0_t1_loop.trips) : Fin 3 → Nat :=
  let c0_42 : Index := 0#32
  let c0_i32 : BitVec 32 := 0#32
  let c1_i32 : BitVec 32 := 1#32
  let arg10 : BitVec 32 := Scf.iv c0_i32 c1_i32 k0_t1
  let c1_i32_8 : BitVec 32 := 1#32
  let v28 : BitVec 32 := Scalar.subi arg10 c1_i32_8
  let c0_i32_9 : BitVec 32 := 0#32
  let v29 : BitVec 32 := Scalar.maxsi v28 c0_i32_9
  let c128_i32_10 : BitVec 32 := 128#32
  let v30 : BitVec 32 := Scalar.muli v29 c128_i32_10
  let v31 : BitVec 32 := v30
  let v95 : Index := Scalar.indexCast v31
  let c128_43 : Index := 128#32
  ![0, v95.toNat, 128]
def k0_off7 (k0_t1 : Fin k0_t1_loop.trips) : Fin 3 → Nat :=
  let c0_44 : Index := 0#32
  let c0_i32 : BitVec 32 := 0#32
  let c1_i32 : BitVec 32 := 1#32
  let arg10 : BitVec 32 := Scf.iv c0_i32 c1_i32 k0_t1
  let c128_i32_7 : BitVec 32 := 128#32
  let v26 : BitVec 32 := Scalar.muli arg10 c128_i32_7
  let v27 : BitVec 32 := v26
  let v98 : Index := Scalar.indexCast v27
  let c128_45 : Index := 128#32
  ![0, v98.toNat, 128]
def k0_off8 (k0_t1 : Fin k0_t1_loop.trips) : Fin 3 → Nat :=
  let c0_46 : Index := 0#32
  let c0_i32 : BitVec 32 := 0#32
  let c1_i32 : BitVec 32 := 1#32
  let arg10 : BitVec 32 := Scf.iv c0_i32 c1_i32 k0_t1
  let c1_i32_11 : BitVec 32 := 1#32
  let v32 : BitVec 32 := Scalar.addi arg10 c1_i32_11
  let c31_i32 : BitVec 32 := 31#32
  let v33 : BitVec 32 := Scalar.minsi v32 c31_i32
  let c128_i32_12 : BitVec 32 := 128#32
  let v34 : BitVec 32 := Scalar.muli v33 c128_i32_12
  let v35 : BitVec 32 := v34
  let v101 : Index := Scalar.indexCast v35
  let c128_47 : Index := 128#32
  ![0, v101.toNat, 128]
def k0_off9 (k0_t1 : Fin k0_t1_loop.trips) : Fin 3 → Nat :=
  let c0_60 : Index := 0#32
  let c0_i32 : BitVec 32 := 0#32
  let c1_i32 : BitVec 32 := 1#32
  let arg10 : BitVec 32 := Scf.iv c0_i32 c1_i32 k0_t1
  let c128_i32_7 : BitVec 32 := 128#32
  let v26 : BitVec 32 := Scalar.muli arg10 c128_i32_7
  let v27 : BitVec 32 := v26
  let v119 : Index := Scalar.indexCast v27
  let c256 : Index := 256#32
  ![0, v119.toNat, 256]
def k0_off10 (k0_t1 : Fin k0_t1_loop.trips) : Fin 3 → Nat :=
  let c0_61 : Index := 0#32
  let c0_i32 : BitVec 32 := 0#32
  let c1_i32 : BitVec 32 := 1#32
  let arg10 : BitVec 32 := Scf.iv c0_i32 c1_i32 k0_t1
  let c128_i32_7 : BitVec 32 := 128#32
  let v26 : BitVec 32 := Scalar.muli arg10 c128_i32_7
  let v27 : BitVec 32 := v26
  let v122 : Index := Scalar.indexCast v27
  let c384 : Index := 384#32
  ![0, v122.toNat, 384]
def k0_off11 (k0_t1 : Fin k0_t1_loop.trips) : Fin 3 → Nat :=
  let c0_103 : Index := 0#32
  let c0_i32 : BitVec 32 := 0#32
  let c1_i32 : BitVec 32 := 1#32
  let arg10 : BitVec 32 := Scf.iv c0_i32 c1_i32 k0_t1
  let c128_i32_7 : BitVec 32 := 128#32
  let v26 : BitVec 32 := Scalar.muli arg10 c128_i32_7
  let v27 : BitVec 32 := v26
  let v278 : Index := Scalar.indexCast v27
  let c0_104 : Index := 0#32
  ![0, v278.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S8x4096x8x64 : Shape := ⟨4, ![8, 4096, 8, 64]⟩
abbrev S8x4096x2x64 : Shape := ⟨4, ![8, 4096, 2, 64]⟩
abbrev S8x256x2x64 : Shape := ⟨4, ![8, 256, 2, 64]⟩
abbrev S8 : Shape := ⟨1, ![8]⟩
abbrev S512 : Shape := ⟨1, ![512]⟩
abbrev S8x4096x2x4x64 : Shape := ⟨5, ![8, 4096, 2, 4, 64]⟩
abbrev S8x2x4096x4096x4 : Shape := ⟨5, ![8, 2, 4096, 4096, 4]⟩
abbrev S8x2x4x4096x4096 : Shape := ⟨5, ![8, 2, 4, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x2x256x4096x4 : Shape := ⟨5, ![8, 2, 256, 4096, 4]⟩
abbrev S8x2x4x4096x256 : Shape := ⟨5, ![8, 2, 4, 4096, 256]⟩
abbrev S1x2x4x1x1 : Shape := ⟨5, ![1, 2, 4, 1, 1]⟩
abbrev S8x2x4x4096x1 : Shape := ⟨5, ![8, 2, 4, 4096, 1]⟩
abbrev S8x2x4x4096x4353 : Shape := ⟨5, ![8, 2, 4, 4096, 4353]⟩
abbrev S8x2x4x4096 : Shape := ⟨4, ![8, 2, 4, 4096]⟩
abbrev S8x2x64x4x4096 : Shape := ⟨5, ![8, 2, 64, 4, 4096]⟩
abbrev S8x4096x512 : Shape := ⟨3, ![8, 4096, 512]⟩
abbrev S8x4096 : Shape := ⟨2, ![8, 4096]⟩
abbrev S8x4096x1 : Shape := ⟨3, ![8, 4096, 1]⟩
abbrev S1x1x512 : Shape := ⟨3, ![1, 1, 512]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x256x2x64, .f32⟩
  | .hbm, ⟨4, _⟩ => ⟨S8x256x2x64, .f32⟩
  | .hbm, ⟨5, _⟩ => ⟨S8, .f32⟩
  | .hbm, ⟨6, _⟩ => ⟨S512, .f32⟩
  | .hbm, ⟨7, _⟩ => ⟨S8x4096x2x4x64, .f32⟩
  | .hbm, ⟨8, _⟩ => ⟨S8x2x4096x4096x4, .f32⟩
  | .hbm, ⟨9, _⟩ => ⟨S8x2x4x4096x4096, .f32⟩
  | .hbm, ⟨10, _⟩ => ⟨S_, .f32⟩
  | .hbm, ⟨11, _⟩ => ⟨S8x2x4x4096x4096, .f32⟩
  | .hbm, ⟨12, _⟩ => ⟨S8x2x4x4096x4096, .f32⟩
  | .hbm, ⟨13, _⟩ => ⟨S4096, .i32⟩
  | .hbm, ⟨14, _⟩ => ⟨S4096x1, .i32⟩
  | .hbm, ⟨15, _⟩ => ⟨S4096, .i32⟩
  | .hbm, ⟨16, _⟩ => ⟨S1x4096, .i32⟩
  | .hbm, ⟨17, _⟩ => ⟨S4096x4096, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S_, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S8x2x4x4096x4096, .i1⟩
  | .hbm, ⟨27, _⟩ => ⟨S8x2x4x4096x4096, .f32⟩
  | .hbm, ⟨28, _⟩ => ⟨S8x2x4x4096x4096, .f32⟩
  | .hbm, ⟨29, _⟩ => ⟨S8x2x256x4096x4, .f32⟩
  | .hbm, ⟨30, _⟩ => ⟨S8x2x4x4096x256, .f32⟩
  | .hbm, ⟨31, _⟩ => ⟨S_, .f32⟩
  | .hbm, ⟨32, _⟩ => ⟨S8x2x4x4096x256, .f32⟩
  | .hbm, ⟨33, _⟩ => ⟨S8x2x4x4096x256, .f32⟩
  | .hbm, ⟨34, _⟩ => ⟨S1x2x4x1x1, .f32⟩
  | .hbm, ⟨35, _⟩ => ⟨S8x2x4x4096x1, .f32⟩
  | .hbm, ⟨36, _⟩ => ⟨S8x2x4x4096x4353, .f32⟩
  | .hbm, ⟨37, _⟩ => ⟨S_, .f32⟩
  | .hbm, ⟨38, _⟩ => ⟨S8x2x4x4096, .f32⟩
  | .hbm, ⟨39, _⟩ => ⟨S_, .f32⟩
  | .hbm, ⟨40, _⟩ => ⟨S8x2x4x4096, .f32⟩
  | .hbm, ⟨41, _⟩ => ⟨S8x2x4x4096, .f32⟩
  | .hbm, ⟨42, _⟩ => ⟨S8x2x4x4096x1, .f32⟩
  | .hbm, ⟨43, _⟩ => ⟨S8x2x4x4096x4353, .f32⟩
  | .hbm, ⟨44, _⟩ => ⟨S8x2x4x4096x4353, .f32⟩
  | .hbm, ⟨45, _⟩ => ⟨S8x2x4x4096x4353, .f32⟩
  | .hbm, ⟨46, _⟩ => ⟨S_, .f32⟩
  | .hbm, ⟨47, _⟩ => ⟨S8x2x4x4096, .f32⟩
  | .hbm, ⟨48, _⟩ => ⟨S8x2x4x4096x1, .f32⟩
  | .hbm, ⟨49, _⟩ => ⟨S8x2x4x4096x4353, .f32⟩
  | .hbm, ⟨50, _⟩ => ⟨S8x2x4x4096x4353, .f32⟩
  | .hbm, ⟨51, _⟩ => ⟨S8x2x4x4096x4096, .f32⟩
  | .hbm, ⟨52, _⟩ => ⟨S8x2x4x4096x256, .f32⟩
  | .hbm, ⟨53, _⟩ => ⟨S8x2x64x4x4096, .f32⟩
  | .hbm, ⟨54, _⟩ => ⟨S8x4096x2x4x64, .f32⟩
  | .hbm, ⟨55, _⟩ => ⟨S8x2x64x4x4096, .f32⟩
  | .hbm, ⟨56, _⟩ => ⟨S8x4096x2x4x64, .f32⟩
  | .hbm, ⟨57, _⟩ => ⟨S8x4096x2x4x64, .f32⟩
  | .hbm, ⟨58, _⟩ => ⟨S8x4096x512, .f32⟩
  | .hbm, ⟨59, _⟩ => ⟨S8x4096x512, .f32⟩
  | .hbm, ⟨60, _⟩ => ⟨S_, .f32⟩
  | .hbm, ⟨61, _⟩ => ⟨S8x4096, .f32⟩
  | .hbm, ⟨62, _⟩ => ⟨S8x4096x1, .f32⟩
  | .hbm, ⟨63, _⟩ => ⟨S_, .f32⟩
  | .hbm, ⟨64, _⟩ => ⟨S8x4096x1, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1, .f32⟩
  | .hbm, ⟨70, _⟩ => ⟨S8x4096x512, .f32⟩
  | .hbm, ⟨71, _⟩ => ⟨S8x4096x512, .f32⟩
  | .hbm, ⟨72, _⟩ => ⟨S1x1x512, .f32⟩
  | .hbm, ⟨73, _⟩ => ⟨S8x4096x512, .f32⟩
  | .hbm, ⟨74, _⟩ => ⟨S8x4096x512, .f32⟩
  | .hbm, ⟨75, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel2.lean ====
abbrev S288 : Shape := ⟨1, ![288]⟩
abbrev S1 : Shape := ⟨1, ![1]⟩
abbrev S1179648x128 : Shape := ⟨2, ![1179648, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S1024x2048 : Shape := ⟨2, ![1024, 2048]⟩
abbrev S1024x1024 : Shape := ⟨2, ![1024, 1024]⟩
abbrev S512x128 : Shape := ⟨2, ![512, 128]⟩
abbrev S1024x256 : Shape := ⟨2, ![1024, 256]⟩
abbrev S512x256 : Shape := ⟨2, ![512, 256]⟩
abbrev S1x1x256 : Shape := ⟨3, ![1, 1, 256]⟩
abbrev S1x256 : Shape := ⟨2, ![1, 256]⟩
abbrev S256x1024 : Shape := ⟨2, ![256, 1024]⟩
abbrev S1x1024 : Shape := ⟨2, ![1, 1024]⟩

abbrev nBuf : Space → Nat
  | .hbm => 6
  | .vmem => 15
  | .smem => 2
  | _ => 0

abbrev bufTy : (tb : Table) → Fin (tcTables nBuf tb) → BufTy
  | .hbm, ⟨0, _⟩ => ⟨S1179648x128, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .vmem, ⟨12, _⟩ => ⟨S512x1024, .bf16⟩
  | .local _ .vmem, ⟨13, _⟩ => ⟨S1024x2048, .bf16⟩
  | .local _ .vmem, ⟨14, _⟩ => ⟨S1024x1024, .bf16⟩
  | .local _ .smem, ⟨0, _⟩ => ⟨S288, .i32⟩
  | .local _ .smem, ⟨1, _⟩ => ⟨S1, .i32⟩
  | _, _ => ⟨S1179648x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v4 : BitVec 32 := Scalar.subi arg0 c1_i32
  let c0_i32_0 : BitVec 32 := 0#32
  let v5 : BitVec 32 := Scalar.maxsi v4 c0_i32_0
  let v6 : Index := Scalar.indexCast v5
  ![v6.toNat]
def k0_cond2 (i : grid0.Coords) (v0 : BitVec 32) : BitVec 1 :=
  let arg0 : BitVec 32 := BitVec.ofNat 32 (i 0).val
  let v12 : BitVec 1 := Scalar.cmpi .slt arg0 v0
  let v13 : BitVec 32 := Scalar.extui v12
  let c0_i32_2 : BitVec 32 := 0#32
  let v14 : BitVec 1 := Scalar.cmpi .ne v13 c0_i32_2
  v14

def k0_cond3 (i : grid0.Coords) (v0 : BitVec 32) : BitVec 1 :=
  let arg0 : BitVec 32 := BitVec.ofNat 32 (i 0).val
  let v15 : BitVec 1 := Scalar.cmpi .sge arg0 v0
  let v16 : BitVec 32 := Scalar.extui v15
  let c0_i32_3 : BitVec 32 := 0#32
  let v17 : BitVec 1 := Scalar.cmpi .ne v16 c0_i32_3
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S288 : Shape := ⟨1, ![288]⟩
abbrev S1 : Shape := ⟨1, ![1]⟩
abbrev S1179648x128 : Shape := ⟨2, ![1179648, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S147456x1024 : Shape := ⟨2, ![147456, 1024]⟩
abbrev S288x512 : Shape := ⟨2, ![288, 512]⟩
abbrev S147456 : Shape := ⟨1, ![147456]⟩
abbrev S_ : Shape := ⟨0, ![]⟩
abbrev S147456x1 : Shape := ⟨2, ![147456, 1]⟩
abbrev S147456x1024x2048 : Shape := ⟨3, ![147456, 1024, 2048]⟩
abbrev S147456x2048 : Shape := ⟨2, ![147456, 2048]⟩
abbrev S147456x1x2048 : Shape := ⟨3, ![147456, 1, 2048]⟩
abbrev S147456x1024x1024 : Shape := ⟨3, ![147456, 1024, 1024]⟩
abbrev S147456x1x1024 : Shape := ⟨3, ![147456, 1, 1024]⟩

abbrev nBuf : Space → Nat
  | .hbm => 94
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S1179648x128, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S147456x1024, .f32⟩
  | .hbm, ⟨8, _⟩ => ⟨S288, .i32⟩
  | .hbm, ⟨9, _⟩ => ⟨S288x512, .i32⟩
  | .hbm, ⟨10, _⟩ => ⟨S147456, .i32⟩
  | .hbm, ⟨11, _⟩ => ⟨S288x512, .i32⟩
  | .hbm, ⟨12, _⟩ => ⟨S147456, .i32⟩
  | .hbm, ⟨13, _⟩ => ⟨S_, .i32⟩
  | .hbm, ⟨14, _⟩ => ⟨S147456, .i32⟩
  | .hbm, ⟨15, _⟩ => ⟨S147456, .i1⟩
  | .hbm, ⟨16, _⟩ => ⟨S_, .i32⟩
  | .hbm, ⟨17, _⟩ => ⟨S147456, .i32⟩
  | .hbm, ⟨18, _⟩ => ⟨S147456, .i32⟩
  | .hbm, ⟨19, _⟩ => ⟨S147456, .i32⟩
  | .hbm, ⟨20, _⟩ => ⟨S147456x1, .i32⟩
  | .hbm, ⟨21, _⟩ => ⟨S147456x1024x2048, .f32⟩
  | .hbm, ⟨22, _⟩ => ⟨S147456x2048, .f32⟩
  | .hbm, ⟨23, _⟩ => ⟨S_, .i32⟩
  | .hbm, ⟨24, _⟩ => ⟨S147456, .i32⟩
  | .hbm, ⟨25, _⟩ => ⟨S147456, .i1⟩
  | .hbm, ⟨26, _⟩ => ⟨S_, .i32⟩
  | .hbm, ⟨27, _⟩ => ⟨S147456, .i32⟩
  | .hbm, ⟨28, _⟩ => ⟨S147456, .i32⟩
  | .hbm, ⟨29, _⟩ => ⟨S147456, .i32⟩
  | .hbm, ⟨30, _⟩ => ⟨S147456x1, .i32⟩
  | .hbm, ⟨31, _⟩ => ⟨S147456x1x2048, .f32⟩
  | .hbm, ⟨32, _⟩ => ⟨S147456x2048, .f32⟩
  | .hbm, ⟨33, _⟩ => ⟨S147456x2048, .f32⟩
  | .hbm, ⟨34, _⟩ => ⟨S147456x1024, .f32⟩
  | .hbm, ⟨35, _⟩ => ⟨S147456x1024, .f32⟩
  | .hbm, ⟨36, _⟩ => ⟨S_, .f32⟩
  | .hbm, ⟨37, _⟩ => ⟨S147456x1024, .f32⟩
  | .hbm, ⟨38, _⟩ => ⟨S147456x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S147456x1024, .f32⟩
  | .hbm, ⟨43, _⟩ => ⟨S147456x1024, .f32⟩
  | .hbm, ⟨44, _⟩ => ⟨S_, .f32⟩
  | .hbm, ⟨45, _⟩ => ⟨S147456x1024, .f32⟩
  | .hbm, ⟨46, _⟩ => ⟨S147456x1024, .f32⟩
  | .hbm, ⟨47, _⟩ => ⟨S_, .f32⟩
  | .hbm, ⟨48, _⟩ => ⟨S147456x1024, .f32⟩
  | .hbm, ⟨49, _⟩ => ⟨S147456x1024, .f32⟩
  | .hbm, ⟨50, _⟩ => ⟨S147456x1024, .f32⟩
  | .hbm, ⟨51, _⟩ => ⟨S147456x1024, .f32⟩
  | .hbm, ⟨52, _⟩ => ⟨S_, .f32⟩
  | .hbm, ⟨53, _⟩ => ⟨S147456x1024, .f32⟩
  | .hbm, ⟨54, _⟩ => ⟨S147456x1024, .f32⟩
  | .hbm, ⟨55, _⟩ => ⟨S_, .f32⟩
  | .hbm, ⟨56, _⟩ => ⟨S147456x1024, .f32⟩
  | .hbm, ⟨57, _⟩ => ⟨S147456x1024, .f32⟩
  | .hbm, ⟨58, _⟩ => ⟨S147456x1024, .f32⟩
  | .hbm, ⟨59, _⟩ => ⟨S_, .f32⟩
  | .hbm, ⟨60, _⟩ => ⟨S147456x1024, .f32⟩
  | .hbm, ⟨61, _⟩ => ⟨S147456x1024, .f32⟩
  | .hbm, ⟨62, _⟩ => ⟨S147456x1024, .f32⟩
  | .hbm, ⟨63, _⟩ => ⟨S_, .i32⟩
  | .hbm, ⟨64, _⟩ => ⟨S147456, .i32⟩
  | .hbm, ⟨65, _⟩ => ⟨S147456, .i1⟩
  | .hbm, ⟨66, _⟩ => ⟨S_, .i32⟩
  | .hbm, ⟨67, _⟩ => ⟨S147456, .i32⟩
  | .hbm, ⟨68, _⟩ => ⟨S147456, .i32⟩
  | .hbm, ⟨69, _⟩ => ⟨S147456, .i32⟩
  | .hbm, ⟨70, _⟩ => ⟨S147456x1, .i32⟩
  | .hbm, ⟨71, _⟩ => ⟨S147456x1024x1024, .f32⟩
  | .hbm, ⟨72, _⟩ => ⟨S147456x1024, .f32⟩
  | .hbm, ⟨73, _⟩ => ⟨S_, .i32⟩
  | .hbm, ⟨74, _⟩ => ⟨S147456, .i32⟩
  | .hbm, ⟨75, _⟩ => ⟨S147456, .i1⟩
  | .hbm, ⟨76, _⟩ => ⟨S_, .i32⟩
  | .hbm, ⟨77, _⟩ => ⟨S147456, .i32⟩
  | .hbm, ⟨78, _⟩ => ⟨S147456, .i32⟩
  | .hbm, ⟨79, _⟩ => ⟨S147456, .i32⟩
  | .hbm, ⟨80, _⟩ => ⟨S147456x1, .i32⟩
  | .hbm, ⟨81, _⟩ => ⟨S147456x1x1024, .f32⟩
  | .hbm, ⟨82, _⟩ => ⟨S147456x1024, .f32⟩
  | .hbm, ⟨83, _⟩ => ⟨S147456x1024, .f32⟩
  | .hbm, ⟨84, _⟩ => ⟨S_, .i32⟩
  | .hbm, ⟨85, _⟩ => ⟨S147456, .i32⟩
  | .hbm, ⟨86, _⟩ => ⟨S147456, .i1⟩
  | .hbm, ⟨87, _⟩ => ⟨S147456x1, .i1⟩
  | .hbm, ⟨88, _⟩ => ⟨S_, .f32⟩
  | .hbm, ⟨89, _⟩ => ⟨S_, .f32⟩
  | .hbm, ⟨90, _⟩ => ⟨S147456x1024, .i1⟩
  | .hbm, ⟨91, _⟩ => ⟨S147456x1024, .f32⟩
  | .hbm, ⟨92, _⟩ => ⟨S147456x1024, .f32⟩
  | .hbm, ⟨93, _⟩ => ⟨S1179648x128, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Proof.AttnBlock.lean ====
/-
  What one block of query rows of the windowed attention leaves, as a function of the contents of the kernel's operand
  blocks, and the whole output block of one batch entry put together from the thirty-two row blocks.
-/
module

public import proofs.«01_k».proof.Proof.Gen.KernelIdeal.Loops
public import proofs.«01_k».proof.Proof.Gen.KernelIdeal.Frame

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.ShloMosaic.View (Piece canon ld)

variable {F : FTy → Type} [FloatOps F] [Named F]

/-- One query head of a lane pair, over one block of rows: the masked scores against the 640 gathered keys, their
    softmax with the sink `sk` in the denominator, and the weighted values. -/
def halfOut (okp okn : IVec S256x128 1) (sk : FVec F S256x1 .f32) (q2 : FVec F S256x128 .bf16)
    (km vm : FVec F S640x128 .bf16) : FVec F S256x128 .f32 :=
  k0_pay51 vm sk (k0_pay44 okp okn sk (k0_pay31 q2 km)) (k0_pay48 okp okn sk (k0_pay31 q2 km))

/-- The two query heads of a lane pair, added: each leaves zero in the other's lanes. -/
def pairOut (okp okn : IVec S256x128 1) (skl skr : FVec F S256x1 .f32) (q2 : FVec F S256x128 .bf16)
    (kc vc : FVec F S640x128 .bf16) : FVec F S256x128 .f32 :=
  addf (halfOut okp okn skl q2 (k0_pay16 k0_pay6 k0_pay7 kc) (k0_pay16 k0_pay6 k0_pay7 vc))
    (halfOut okp okn skr q2 (k0_pay19 k0_pay6 k0_pay7 kc) (k0_pay19 k0_pay6 k0_pay7 vc))

variable (x1 : S8.Idx → Elt F .f32) (x2 : S1x4096x512.Idx → Elt F .bf16) (x3 x4 : S1x4096x256.Idx → Elt F .bf16)
  (x5 x6 : S1x256x256.Idx → Elt F .bf16) (x7 : S1x512.Idx → Elt F .f32) (k : Fin k0_t1_loop.trips)

/-- Sink entry `n`. -/
def sinkAt (n : ℕ) (h : ∀ a, (![n] : Fin 1 → ℕ) a + S1.size a ≤ S8.size a) : Elt F .f32 :=
  ld x1 (Rect.unit (s := S8) ![n] S1.size h) (Shape.Idx.first (numel1_S1.symm ▸ Nat.one_pos))

/-- The 640 rows of keys (or values) of the first key head that row block `k` looks at. -/
def gather0 (x : S1x4096x256.Idx → Elt F .bf16) (y : S1x256x256.Idx → Elt F .bf16) : FVec F S640x128 .bf16 :=
  k0_pay11 (ld x (Rect.unit (s := S1x4096x256) (k0_off1 k) S1x128x128.size (k0_off1_inb k)))
    (ld x (Rect.unit (s := S1x4096x256) (k0_off2 k) S1x128x128.size (k0_off2_inb k)))
    (ld x (Rect.unit (s := S1x4096x256) (k0_off3 k) S1x128x128.size (k0_off3_inb k)))
    (ld y (Rect.unit (s := S1x256x256) ![0, 0, 0] S1x256x128.size inb_S1x256x256_S1x256x128_0_0_0))

/-- The 640 rows of keys (or values) of the second key head that row block `k` looks at. -/
def gather1 (x : S1x4096x256.Idx → Elt F .bf16) (y : S1x256x256.Idx → Elt F .bf16) : FVec F S640x128 .bf16 :=
  k0_pay11 (ld x (Rect.unit (s := S1x4096x256) (k0_off6 k) S1x128x128.size (k0_off6_inb k)))
    (ld x (Rect.unit (s := S1x4096x256) (k0_off7 k) S1x128x128.size (k0_off7_inb k)))
    (ld x (Rect.unit (s := S1x4096x256) (k0_off8 k) S1x128x128.size (k0_off8_inb k)))
    (ld y (Rect.unit (s := S1x256x256) ![0, 0, 128] S1x256x128.size inb_S1x256x256_S1x256x128_0_0_128))

/-- The sink column of two heads: the first head's value in the upper 128 rows, the second's in the lower. -/
def sinkCol (a b : Elt F .f32) : FVec F S256x1 .f32 := k0_pay18 k0_pay8 a b

/-- The keys before the block that a row may see. -/
def okPrev : IVec S256x128 1 := k0_pay9 0#32 1#32 k

/-- The keys after the block that a row may see. -/
def okNext : IVec S256x128 1 :=
  k0_pay10 (Scf.iv 0#32 1#32 k) k0_pay5 (iota .tc S256x128 32 [1] iota_S256x128_d1_w32)

/-- The four heads of the first key head, row block `k`. -/
def pair0 : FVec F S256x128 .f32 :=
  pairOut (okPrev k) (okNext k) (sinkCol (sinkAt x1 0 inb_S8_S1_0) (sinkAt x1 2 inb_S8_S1_2)) (sinkCol (sinkAt x1 1 inb_S8_S1_1) (sinkAt x1 3 inb_S8_S1_3))
    (k0_pay26 (ld x2 (Rect.unit (s := S1x4096x512) (k0_off4 k) S1x128x128.size (k0_off4_inb k)))
      (ld x2 (Rect.unit (s := S1x4096x512) (k0_off5 k) S1x128x128.size (k0_off5_inb k))))
    (gather0 k x3 x5) (gather0 k x4 x6)

/-- The four heads of the second key head, row block `k`. -/
def pair1 : FVec F S256x128 .f32 :=
  pairOut (okPrev k) (okNext k) (sinkCol (sinkAt x1 4 inb_S8_S1_4) (sinkAt x1 6 inb_S8_S1_6)) (sinkCol (sinkAt x1 5 inb_S8_S1_5) (sinkAt x1 7 inb_S8_S1_7))
    (k0_pay26 (ld x2 (Rect.unit (s := S1x4096x512) (k0_off9 k) S1x128x128.size (k0_off9_inb k)))
      (ld x2 (Rect.unit (s := S1x4096x512) (k0_off10 k) S1x128x128.size (k0_off10_inb k))))
    (gather1 k x3 x5) (gather1 k x4 x6)

/-- The eight heads of row block `k`, side by side: the last written column first. -/
def accPieces : List (Piece (Elt F) S128x512 .f32) :=
  [⟨Rect.unit (s := S128x512) ![0, 384] S128x128.size inb_S128x512_S128x128_0_384,
      shapeCast S128x128 (extractStridedSlice S128x128 ![128, 0] (pair1 x1 x2 x3 x4 x5 x6 k) slices_S256x128_o128_0_S128x128) shapeCasts_S128x128_S128x128⟩,
   ⟨Rect.unit (s := S128x512) ![0, 256] S128x128.size inb_S128x512_S128x128_0_256,
      shapeCast S128x128 (extractStridedSlice S128x128 ![0, 0] (pair1 x1 x2 x3 x4 x5 x6 k) slices_S256x128_o0_0_S128x128) shapeCasts_S128x128_S128x128⟩,
   ⟨Rect.unit (s := S128x512) ![0, 128] S128x128.size inb_S128x512_S128x128_0_128,
      shapeCast S128x128 (extractStridedSlice S128x128 ![128, 0] (pair0 x1 x2 x3 x4 x5 x6 k) slices_S256x128_o128_0_S128x128) shapeCasts_S128x128_S128x128⟩,
   ⟨Rect.unit (s := S128x512) ![0, 0] S128x128.size inb_S128x512_S128x128_0_0,
      shapeCast S128x128 (extractStridedSlice S128x128 ![0, 0] (pair0 x1 x2 x3 x4 x5 x6 k) slices_S256x128_o0_0_S128x128) shapeCasts_S128x128_S128x128⟩]

/-- The attention of row block `k`, all heads. -/
def acc : FVec F S128x512 .f32 :=
  ld (canon (accPieces x1 x2 x3 x4 x5 x6 k)) (Rect.unit (s := S128x512) ![0, 0] S128x512.size inb_S128x512_S128x512_0_0)

/-- The normalised rows of block `k`, as stored. -/
def rowsOut : FVec F S1x128x512 .bf16 :=
  k0_pay4 (acc x1 x2 x3 x4 x5 x6 k) (ld x7 (Rect.unit (s := S1x512) ![0, 0] S1x512.size inb_S1x512_S1x512_0_0))

/-- The place of row `y 1` within its block of 128 rows. -/
def inBlk (y : S1x4096x512.Idx) : S1x128x512.Idx := fun a => match a with
  | 0 => ⟨0, by decide⟩
  | 1 => ⟨(y 1).val % 128, Nat.mod_lt _ (by decide)⟩
  | 2 => y 2

/-- The output block of one batch entry: row `r` is in row block `r / 128`. -/
def outBlk : S1x4096x512.Idx → Elt F .bf16 := fun y =>
  rowsOut x1 x2 x3 x4 x5 x6 x7 ⟨(y 1).val / 128, by have := (y 1).isLt; show _ < 32; have h : (y 1).val < 4096 := this; omega⟩
    (inBlk y)

section Trip

variable (𝒱 : Variants) (c : Dev nD) (bd : Option 𝒱.V) (i : grid0.Coords)
  (arg1 : Memref sig .tc .smem S8 .f32) (harg1 : arg1.IsWhole) (arg2 : Memref sig .tc .vmem S1x4096x512 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x512 .f32) (harg7 : arg7.IsWhole) (arg8 : Memref sig .tc .vmem S1x4096x512 .bf16) (harg8 : arg8.IsWhole) (arg9 : Memref sig .tc .vmem S128x512 .f32) (harg9 : arg9.IsWhole)
  (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)

/-- What one trip of the row-block loop stores into the output block: the rows of block `k`, at their place. -/
theorem trip_writes (f8 : BufTy.Contents (Elt F) arg8.view.ty) (f9 : BufTy.Contents (Elt F) arg9.view.ty) :
    (trip_k0_t1 (F := F) 𝒱 c bd i arg1 harg1 arg2 harg2 arg3 harg3 arg4 harg4 arg5 harg5 arg6 harg6 arg7 harg7 arg8 harg8 arg9 harg9 X1 X2 X3 X4 X5 X6 X7 k).1 f8 f9
      = [⟨Rect.unit (s := S1x4096x512) (k0_off11 k) S1x128x512.size (k0_off11_inb k),
          rowsOut (arg1.view.read (Elt F) X1) (arg2.view.read (Elt F) X2) (arg3.view.read (Elt F) X3) (arg4.view.read (Elt F) X4) (arg5.view.read (Elt F) X5) (arg6.view.read (Elt F) X6) (arg7.view.read (Elt F) X7) k⟩] := by
  unfold trip_k0_t1
  dsimp only
  have h : trip_k0_t1.sl.v262 arg1 arg2 arg3 arg4 arg5 arg6 arg9 X1 X2 X3 X4 X5 X6 k
      = acc (arg1.view.read (Elt F) X1) (arg2.view.read (Elt F) X2) (arg3.view.read (Elt F) X3) (arg4.view.read (Elt F) X4) (arg5.view.read (Elt F) X5) (arg6.view.read (Elt F) X6) k := by
    unfold trip_k0_t1.sl.v262
    rw [View.readCov_eq_canon']
    have hp : trip_k0_t1.sl.HW_arg9_4 arg1 arg2 arg3 arg4 arg5 arg6 X1 X2 X3 X4 X5 X6 k = accPieces (arg1.view.read (Elt F) X1) (arg2.view.read (Elt F) X2) (arg3.view.read (Elt F) X3) (arg4.view.read (Elt F) X4) (arg5.view.read (Elt F) X5) (arg6.view.read (Elt F) X6) k := by
      have h239 : addf (trip_k0_t1.sl.v239 arg1 arg2 arg3 arg4 arg5 arg6 X1 X2 X3 X4 X5 X6 k) (trip_k0_t1.sl.v243 arg1 arg2 arg3 arg4 arg5 arg6 X1 X2 X3 X4 X5 X6 k) = pair1 (arg1.view.read (Elt F) X1) (arg2.view.read (Elt F) X2) (arg3.view.read (Elt F) X3) (arg4.view.read (Elt F) X4) (arg5.view.read (Elt F) X5) (arg6.view.read (Elt F) X6) k := by
        unfold pair1 pairOut halfOut
        refine congrArg₂ addf ?_ ?_
        · rfl
        · rfl
      have h248 : trip_k0_t1.sl.v248 arg1 arg2 arg3 arg4 arg5 arg6 X1 X2 X3 X4 X5 X6 k = shapeCast S128x128 (extractStridedSlice S128x128 ![0, 0] (pair0 (arg1.view.read (Elt F) X1) (arg2.view.read (Elt F) X2) (arg3.view.read (Elt F) X3) (arg4.view.read (Elt F) X4) (arg5.view.read (Elt F) X5) (arg6.view.read (Elt F) X6) k) slices_S256x128_o0_0_S128x128) shapeCasts_S128x128_S128x128 := by
        refine congrArg (fun p : FVec F S256x128 .f32 => shapeCast S128x128 (extractStridedSlice S128x128 ![0, 0] p slices_S256x128_o0_0_S128x128)
          shapeCasts_S128x128_S128x128) (?_ : addf _ _ = _)
        unfold pair0 pairOut halfOut
        refine congrArg₂ addf ?_ ?_
        · rfl
        · rfl
      have h252 : trip_k0_t1.sl.v252 arg1 arg2 arg3 arg4 arg5 arg6 X1 X2 X3 X4 X5 X6 k = shapeCast S128x128 (extractStridedSlice S128x128 ![128, 0] (pair0 (arg1.view.read (Elt F) X1) (arg2.view.read (Elt F) X2) (arg3.view.read (Elt F) X3) (arg4.view.read (Elt F) X4) (arg5.view.read (Elt F) X5) (arg6.view.read (Elt F) X6) k) slices_S256x128_o128_0_S128x128) shapeCasts_S128x128_S128x128 := by
        refine congrArg (fun p : FVec F S256x128 .f32 => shapeCast S128x128 (extractStridedSlice S128x128 ![128, 0] p slices_S256x128_o128_0_S128x128)
          shapeCasts_S128x128_S128x128) (?_ : addf _ _ = _)
        unfold pair0 pairOut halfOut
        refine congrArg₂ addf ?_ ?_
        · rfl
        · rfl
      unfold trip_k0_t1.sl.HW_arg9_4 accPieces k0_pay2 k0_pay3 k0_pay1
      rw [h239, h248, h252]
    rw [hp]
    rfl
  rw [h]
  rfl

/-- The pieces of the first `n` row blocks cover the rows below `128 n` and hold the output block there. -/
theorem pieces_cover (G8 : BufTy.Contents (Elt F) arg8.view.ty) (G9 : BufTy.Contents (Elt F) arg9.view.ty) :
    ∀ (n : ℕ), n ≤ 32 → ∀ y : S1x4096x512.Idx, (y 1).val < 128 * n →
      (∃ p ∈ (pb_k0_t1 (F := F) 𝒱 c bd i arg1 harg1 arg2 harg2 arg3 harg3 arg4 harg4 arg5 harg5 arg6 harg6 arg7 harg7 arg8 harg8 arg9 harg9 X1 X2 X3 X4 X5 X6 X7 G8 G9 n).1, y ∈ p.1.set) ∧
      canon (pb_k0_t1 (F := F) 𝒱 c bd i arg1 harg1 arg2 harg2 arg3 harg3 arg4 harg4 arg5 harg5 arg6 harg6 arg7 harg7 arg8 harg8 arg9 harg9 X1 X2 X3 X4 X5 X6 X7 G8 G9 n).1 y
        = outBlk (arg1.view.read (Elt F) X1) (arg2.view.read (Elt F) X2) (arg3.view.read (Elt F) X3) (arg4.view.read (Elt F) X4) (arg5.view.read (Elt F) X5) (arg6.view.read (Elt F) X6) (arg7.view.read (Elt F) X7) y := by
  intro n
  induction n with
  | zero => intro _ y hy; exact absurd hy (by omega)
  | succ n ih =>
    intro hn y hy
    have hk : n < k0_t1_loop.trips := show n < 32 by omega
    have hs := pb_k0_t1_succ (F := F) 𝒱 c bd i arg1 harg1 arg2 harg2 arg3 harg3 arg4 harg4 arg5 harg5 arg6 harg6 arg7 harg7 arg8 harg8 arg9 harg9 X1 X2 X3 X4 X5 X6 X7 G8 G9 ⟨n, hk⟩
    dsimp only at hs
    rw [hs]
    dsimp only [tripL_k0_t1]
    rw [trip_writes]
    have hoff : k0_off11 ⟨n, hk⟩ = ![0, 128 * n, 0] := k0_off11_eq ⟨n, hk⟩
    have h0 : (y 0).val < 1 := (y 0).isLt
    have h2 : (y 2).val < 512 := (y 2).isLt
    by_cases hin : 128 * n ≤ (y 1).val
    · have hmem : y ∈ (Rect.unit (s := S1x4096x512) (k0_off11 ⟨n, hk⟩) S1x128x512.size (k0_off11_inb ⟨n, hk⟩)).set := by
        rw [Rect.mem_set_unit]
        intro a
        rw [hoff]
        match a with
        | 0 => exact ⟨Nat.zero_le _, h0⟩
        | 1 => exact ⟨hin, by show (y 1).val < 128 * n + 128; omega⟩
        | 2 => exact ⟨Nat.zero_le _, by show (y 2).val < 0 + 512; omega⟩
      refine ⟨⟨_, List.mem_cons_self, hmem⟩, ?_⟩
      have hy' : y = (Rect.unit (s := S1x4096x512) (k0_off11 ⟨n, hk⟩) S1x128x512.size (k0_off11_inb ⟨n, hk⟩)).emb
          (inBlk y) := by
        funext a
        apply Fin.ext
        rw [Rect.emb_apply]
        simp only [Rect.off_unit, Rect.stride_unit, hoff]
        match a with
        | 0 => show (y 0).val = 0 + 1 * 0; omega
        | 1 => show (y 1).val = 128 * n + 1 * ((y 1).val % 128); omega
        | 2 => show (y 2).val = 0 + 1 * (y 2).val; omega
      have hdiv : (y 1).val / 128 = n := by omega
      rw [List.singleton_append]
      conv_lhs => rw [hy', View.canon_cons_emb]
      unfold outBlk
      have hkk : (⟨(y 1).val / 128, by have := (y 1).isLt; show _ < 32; have h : (y 1).val < 4096 := this; omega⟩ : Fin k0_t1_loop.trips) = ⟨n, hk⟩ := Fin.ext hdiv
      rw [hkk]
    · have hlt : (y 1).val < 128 * n := by omega
      obtain ⟨⟨p, hp, hpm⟩, hc⟩ := ih (by omega) y hlt
      refine ⟨⟨p, List.mem_append_right _ hp, hpm⟩, ?_⟩
      rw [List.singleton_append, View.canon_cons_of_not_mem, hc]
      intro hm
      rw [Rect.mem_set_unit] at hm
      have := (hm 1).1
      rw [hoff] at this
      exact hin this

/-- After the whole loop the output block reads as `outBlk`, whatever it held before. -/
theorem loop_out (G8 : BufTy.Contents (Elt F) arg8.view.ty) (G9 : BufTy.Contents (Elt F) arg9.view.ty) :
    arg8.view.read (Elt F) (arg8.view.writes (Elt F) G8
        (pb_k0_t1 (F := F) 𝒱 c bd i arg1 harg1 arg2 harg2 arg3 harg3 arg4 harg4 arg5 harg5 arg6 harg6 arg7 harg7 arg8 harg8 arg9 harg9 X1 X2 X3 X4 X5 X6 X7 G8 G9 k0_t1_loop.trips).1)
      = outBlk (arg1.view.read (Elt F) X1) (arg2.view.read (Elt F) X2) (arg3.view.read (Elt F) X3) (arg4.view.read (Elt F) X4) (arg5.view.read (Elt F) X5) (arg6.view.read (Elt F) X6) (arg7.view.read (Elt F) X7) := by
  have h := pieces_cover 𝒱 c bd i arg1 harg1 arg2 harg2 arg3 harg3 arg4 harg4 arg5 harg5 arg6 harg6 arg7 harg7 arg8 harg8 arg9 harg9 X1 X2 X3 X4 X5 X6 X7 G8 G9 32 le_rfl
  have hy : ∀ y : S1x4096x512.Idx, (y 1).val < 128 * 32 := fun y => (y 1).isLt
  show arg8.view.read (Elt F) (arg8.view.writes (Elt F) G8
        (pb_k0_t1 (F := F) 𝒱 c bd i arg1 harg1 arg2 harg2 arg3 harg3 arg4 harg4 arg5 harg5 arg6 harg6 arg7 harg7 arg8 harg8 arg9 harg9 X1 X2 X3 X4 X5 X6 X7 G8 G9 32).1) = _
  rw [View.read_writes_eq_canon _ _ _ fun y => (h y (hy y)).1]
  exact funext fun y => (h y (hy y)).2

end Trip

end Cert.Proof.Attn

end
-- ==== Proof.AttnRun.lean ====
/-
  The run of the windowed attention's kernel: the body at one batch entry, the proof data of the pipelined grid, and the
  run of the whole program from any memory.
-/
module

public import proofs.«01_k».proof.Proof.AttnBlock

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The body at one grid point: given its seven operand blocks at known values, the output block and the scratch at
    anything, it returns the operands as they were and the output block at `outBlk` of them. -/
theorem sound_kernel (c : Dev nD) (E : Set ℕ) (i : grid0.Coords)
  (arg1 : Memref sig .tc .smem S8 .f32) (harg1 : arg1.IsWhole) (arg2 : Memref sig .tc .vmem S1x4096x512 .bf16) (harg2 : arg2.IsWhole) (arg3 : Memref sig .tc .vmem S1x4096x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x256x256 .bf16) (harg6 : arg6.IsWhole) (arg7 : Memref sig .tc .vmem S1x512 .f32) (harg7 : arg7.IsWhole) (arg8 : Memref sig .tc .vmem S1x4096x512 .bf16) (harg8 : arg8.IsWhole) (arg9 : Memref sig .tc .vmem S128x512 .f32) (harg9 : arg9.IsWhole)
    (x1 : S8.Idx → Elt F .f32) (x2 : S1x4096x512.Idx → Elt F .bf16) (x3 x4 : S1x4096x256.Idx → Elt F .bf16)
    (x5 x6 : S1x256x256.Idx → Elt F .bf16) (x7 : S1x512.Idx → Elt F .f32) (K : PUnit → sProp 𝕄) :
    iprop((owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d) ∗ (∃ d, owns (c : Thread nD τ) arg9 fullShare d))
      ∗ ((owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare (outBlk x1 x2 x3 x4 x5 x6 x7)
        ∗ (∃ d, owns (c : Thread nD τ) arg9 fullShare d)) -∗ K ⟨⟩))
      ⊢ wp frame (wpE (defs₀ (F := F)) Variants.none (c : Thread nD τ) none) E
          (cc0_attn i arg1 harg1 arg2 harg2 arg3 harg3 arg4 harg4 arg5 harg5 arg6 harg6 arg7 harg7 arg8 harg8 arg9 harg9) K := by
  simp only [cc0_attn_eq_skeleton]; unfold cc0_attn_skel
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, %e8, H8⟩, ⟨%d9, %f9, %e9, H9⟩⟩, Hk⟩
  subst e1 e2 e3 e4 e5 e6 e7
  sl_exec
  rw [wp_ret]; imodintro
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists _
    isplitr
    · ipureintro
      exact loop_out Variants.none c none i arg1 harg1 arg2 harg2 arg3 harg3 arg4 harg4 arg5 harg5 arg6 harg6 arg7 harg7 arg8 harg8
        arg9 harg9 f1 f2 f3 f4 f5 f6 f7 f8 f9
    · iexact H8
  · iexists (arg9.view.read (Elt F) (arg9.view.writes (Elt F) f9
      (pb_k0_t1 Variants.none c none i arg1 harg1 arg2 harg2 arg3 harg3 arg4 harg4 arg5 harg5 arg6 harg6 arg7 harg7 arg8
        harg8 arg9 harg9 f1 f2 f3 f4 f5 f6 f7 f8 f9 k0_t1_loop.trips).2)); iexists _
    isplitr
    · ipureintro; rfl
    · iexact H9

/-- The proof data of the grid: the inputs' blocks are left as found, the output block is `outBlk` of them. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => outBlk (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem after_7 (c : Dev nD) (t : Fin cfg0.N) : (dats m 0 c).after 7 t
    = outBlk (iblk m c 0 t) (iblk m c 1 t) (iblk m c 2 t) (iblk m c 3 t) (iblk m c 4 t) (iblk m c 5 t) (iblk m c 6 t) := by
  dsimp only [dats]

/-- What the body is called with at a point: the scratch and the random register, and the eight staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t))

/-- The body meets its obligation at every grid point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7,
    show (dats m 0 c).Φ t.castSucc = Pipeline.ΦA spec0 c from rfl]
  unfold Pipeline.ΦA
  rw [scopedRest0_eq]
  iintro ⟨⟨⟨%fs, Hs⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ _ _
    (iblk m c 0 t) (iblk m c 1 t) (iblk m c 2 t) (iblk m c 3 t) (iblk m c 4 t) (iblk m c 5 t) (iblk m c 6 t) _)
  isplitl [H0 H1 H2 H3 H4 H5 H6 H7 Hs]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · (iexists _; iexact H7)
    iexists fs
    rw [owns_whole]
    iexact Hs
  · iintro ⟨H0, H1, H2, H3, H4, H5, H6, H7, ⟨%ds, Hs⟩⟩
    isplitl [Hs Hp]
    · isplitl [Hs]
      · iexists ds
        rw [← owns_whole]; iexact Hs
      · iexact Hp
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run of the whole program from any memory: every semaphore ends at zero, and every array of the grid ends at what
    the proof data say. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := fun r => Pipeline.FramePost cfgs (dats m) 0 (V m) r ∧ r.2.sem = fun _ => 0) (hQ' := fun _ h => h)

/-- What the program leaves: the result array holds what the grid's proof data say, the seven arguments are as they were,
    and every semaphore is at zero. -/
theorem run_post : θ_run defs (onTc (τ := τ) (main (F := F))) (s₀ m ρ)
    (fun r => (∀ c : Dev nD,
      r.2.mem ((c.tc : Thread nD τ).loc main_v47) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 7,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).1 0).trans (((dats m 0 c).arrAt_in 0 rfl _).trans ((A_eq m c 0).trans (V_main_arg5 m c))),
      ((h.1 c).2 main_arg6 (Pipeline.mem_restRefs_of main_arg6 (by decide) (by decide))).trans (V_main_arg6 m c)⟩, h.2⟩)
    (run_main m ρ)

end Cert.Proof.Attn
-- ==== Proof.Frames.lean ====
/-
  The frames of the windowed attention: the printed kernel, its idealization and the reference each run to the end from
  every memory, leave their arguments as they were and every semaphore at zero; and the two named constants of the
  idealization denote what the certificate's table says.
-/
module

public import proofs.«01_k».proof.Defs
public import proofs.«01_k».proof.Proof.AttnRun
public import proofs.«01_k».proof.Proof.AttnPrintedRun
public import proofs.«01_k».proof.Proof.Gen.ReferenceIdeal.Run
public import proofs.«01_k».proof.Proof.Gen.Pre_finite
public import Idealize.ShloMosaic.Lib.Quiescent

@[expose] public section

noncomputable section

namespace Cert.Proof.Frames

open Idealize.ShloMosaic Idealize.SL.Sem

/-- The kernel as printed, at the bits: it runs, keeps its arguments, ends quiescent. -/
theorem printed_kernel : Cert.quiescent_Kernel := fun m ρ _ =>
  (θ_run Cert.Kernel.defs _ _).mono (fun _ h => ⟨fun c => (h.1 c).2, h.2⟩) (AttnPrinted.run_post m ρ)

/-- The kernel read over the extended reals: the same. -/
theorem ideal_kernel : Cert.quiescent_KernelIdeal := fun m ρ _ =>
  (θ_run Cert.KernelIdeal.defs _ _).mono (fun _ h => ⟨fun c => (h.1 c).2, h.2⟩) (Attn.run_post m ρ)

/-- The kernel over the extended reals, from finite arguments: the same. -/
theorem ideal_kernel_finite : Cert.quiescent_KernelIdeal_pre_finite := fun m ρ _ =>
  (θ_run Cert.KernelIdeal.defs _ _).mono (fun _ h => ⟨fun c => (h.1 c).2, h.2⟩) (Attn.run_post m ρ)

/-- The reference over the extended reals: it runs, keeps its arguments, ends quiescent. -/
theorem ideal_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference over the extended reals, from finite arguments: the same. -/
theorem ideal_reference_finite : Cert.quiescent_ReferenceIdeal_pre_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two constants the idealization names: `1.442695` is `(log 2)⁻¹` and `-1e30` is `-∞`. -/
theorem named : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl⟩

end Cert.Proof.Frames

end
-- ==== Proof.Softmax.lean ====
/-
  Softmax over the extended reals, with a sink in the denominator: the weights do not depend on the finite number that is
  subtracted from the scores, nor on whether they are powers of two of scaled scores or exponentials; and a sum over the
  keys of a window is the sum over three neighbouring blocks of keys.
-/
module

public import Idealize.ShloMosaic.Lib.Pointwise

@[expose] public section

noncomputable section

namespace Cert.Proof.Softmax

open Idealize.ShloMosaic

/-- The weight of a score: its exponential where the key is seen, zero elsewhere. -/
def wt (ok : Prop) [Decidable ok] (s : ℝ) : ℝ := if ok then Real.exp s else 0

theorem wt_nonneg (ok : Prop) [Decidable ok] (s : ℝ) : 0 ≤ wt ok s := by
  unfold wt; split
  · exact (Real.exp_pos s).le
  · exact le_rfl

/-- A power of two of a masked score in base two, less `M`: the weight times a factor that depends on `M` alone. -/
theorem exp2_score (ok : Prop) [Decidable ok] (s M : ℝ) :
    Ideal.exp2 ((if ok then ((s * (Real.log 2)⁻¹ : ℝ) : EReal) else ⊥) - (M : EReal))
      = ((wt ok s * Real.exp (-(M * Real.log 2)) : ℝ) : EReal) := by
  have hl : Real.log 2 ≠ 0 := (Real.log_pos (by norm_num)).ne'
  unfold wt
  split
  · rw [← EReal.coe_sub]
    show ((Real.rpow 2 (s * (Real.log 2)⁻¹ - M) : ℝ) : EReal) = _
    congr 1
    rw [← Real.exp_add]
    show (2 : ℝ) ^ (s * (Real.log 2)⁻¹ - M) = _
    rw [Real.rpow_def_of_pos (by norm_num)]
    congr 1
    field_simp
    ring
  · rw [EReal.bot_sub, zero_mul]
    rfl

/-- An exponential of a masked score, less `M`: the weight times a factor that depends on `M` alone. -/
theorem exp_score (ok : Prop) [Decidable ok] (s M : ℝ) :
    Ideal.exp ((if ok then (s : EReal) else ⊥) - (M : EReal)) = ((wt ok s * Real.exp (-M) : ℝ) : EReal) := by
  unfold wt
  split
  · rw [← EReal.coe_sub]
    show ((Real.exp (s - M) : ℝ) : EReal) = _
    congr 1
    rw [← Real.exp_add, sub_eq_add_neg]
  · rw [EReal.bot_sub, zero_mul]
    rfl

/-- A sum of reals read in the extended reals. -/
theorem coe_sum {J : Type} [Fintype J] (f : J → ℝ) : ((∑ j, f j : ℝ) : EReal) = ∑ j, (f j : EReal) := by
  classical
  induction (Finset.univ : Finset J) using Finset.induction_on with
  | empty => simp
  | insert a s ha ih => rw [Finset.sum_insert ha, Finset.sum_insert ha, EReal.coe_add, ih]

/-- A nonnegative real distributes over a sum of extended reals. -/
theorem sum_mul_coe {J : Type} [Fintype J] (f : J → EReal) (r : ℝ) (hr : 0 ≤ r) :
    (∑ j, f j) * (r : EReal) = ∑ j, f j * (r : EReal) := by
  classical
  induction (Finset.univ : Finset J) using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A quotient of reals. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- Weighted values divided by the common denominator: the common factor of the weights cancels, whatever the values. -/
theorem div_weighted {J : Type} [Fintype J] (w : J → ℝ) (v : J → EReal) (D c : ℝ) (hD : 0 < D) (hc : 0 < c) :
    Ideal.div (∑ j, ((w j * c : ℝ) : EReal) * v j) ((D * c : ℝ) : EReal) = ∑ j, ((w j / D : ℝ) : EReal) * v j := by
  have hDc : D * c ≠ 0 := (mul_pos hD hc).ne'
  unfold Ideal.div
  rw [if_neg (by exact_mod_cast hDc), ← EReal.coe_inv, sum_mul_coe _ _ (inv_nonneg.mpr (mul_pos hD hc).le)]
  refine Finset.sum_congr rfl fun j _ => ?_
  rw [mul_right_comm, ← EReal.coe_mul]
  congr 2
  field_simp

/-- The largest of finitely many numbers below `⊤` and one real is a real. -/
theorem max_real {J : Type} [Fintype J] (f : J → EReal) (hf : ∀ j, f j ≠ ⊤) (t : ℝ) :
    ∃ M : ℝ, max (Finset.univ.fold max (⊥ : EReal) f) (t : EReal) = (M : EReal) := by
  have h1 : max (Finset.univ.fold max (⊥ : EReal) f) (t : EReal) ≠ ⊤ := by
    refine (max_lt ?_ (EReal.coe_lt_top t)).ne
    rw [Finset.fold_max_lt]
    exact ⟨bot_lt_top, fun j _ => lt_top_iff_ne_top.mpr (hf j)⟩
  have h2 : max (Finset.univ.fold max (⊥ : EReal) f) (t : EReal) ≠ ⊥ :=
    (lt_of_lt_of_le (EReal.bot_lt_coe t) (le_max_right _ _)).ne'
  exact ⟨_, (EReal.coe_toReal h1 h2).symm⟩

/-- The largest of finitely many numbers below `⊤`, one of them a real, is a real. -/
theorem fold_real {J : Type} [Fintype J] (f : J → EReal) (hf : ∀ j, f j ≠ ⊤) (j₀ : J) (t : ℝ) (h₀ : f j₀ = (t : EReal)) :
    ∃ M : ℝ, Finset.univ.fold max (⊥ : EReal) f = (M : EReal) := by
  obtain ⟨M, hM⟩ := max_real f hf t
  refine ⟨M, ?_⟩
  rw [← hM]
  refine (max_eq_left ?_).symm
  rw [Finset.le_fold_max]
  exact Or.inr ⟨j₀, Finset.mem_univ _, h₀ ▸ le_rfl⟩

/-- Softmax with a sink, in base two, applied to values: one masked score per key, the sink in the denominator alone. -/
theorem softmax_exp2 {J : Type} [Fintype J] (ok : J → Prop) [DecidablePred ok] (s : J → ℝ) (t : ℝ) (S : J → EReal)
    (hS : ∀ j, S j = if ok j then ((s j * (Real.log 2)⁻¹ : ℝ) : EReal) else ⊥) (T : EReal)
    (hT : T = ((t * (Real.log 2)⁻¹ : ℝ) : EReal)) (v : J → EReal) :
    Ideal.div (∑ j, Ideal.exp2 (S j - max (Finset.univ.fold max ⊥ S) T) * v j)
        (∑ j, Ideal.exp2 (S j - max (Finset.univ.fold max ⊥ S) T) + Ideal.exp2 (T - max (Finset.univ.fold max ⊥ S) T))
      = ∑ j, ((wt (ok j) (s j) / (∑ j, wt (ok j) (s j) + Real.exp t) : ℝ) : EReal) * v j := by
  obtain ⟨M, hM⟩ := max_real S (fun j => by
    rw [hS]; split
    · exact EReal.coe_ne_top _
    · exact bot_ne_top) (t * (Real.log 2)⁻¹)
  rw [hT, hM]
  have h : ∀ j, Ideal.exp2 (S j - (M : EReal)) = ((wt (ok j) (s j) * Real.exp (-(M * Real.log 2)) : ℝ) : EReal) := fun j => by
    rw [hS j, exp2_score]
  have ht : Ideal.exp2 (((t * (Real.log 2)⁻¹ : ℝ) : EReal) - (M : EReal)) = ((Real.exp t * Real.exp (-(M * Real.log 2)) : ℝ) : EReal) := by
    have := exp2_score True t M
    rwa [if_pos trivial, wt, if_pos trivial] at this
  simp only [h, ht]
  rw [← coe_sum, ← EReal.coe_add, ← Finset.sum_mul, ← add_mul]
  exact div_weighted _ _ _ _ (add_pos_of_nonneg_of_pos (Finset.sum_nonneg fun j _ => wt_nonneg _ _) (Real.exp_pos t)) (Real.exp_pos _)

/-- Softmax over masked scores, one of them seen: each weight is its share of the sum of the weights. -/
theorem softmax_exp {J : Type} [Fintype J] (ok : J → Prop) [DecidablePred ok] (s : J → ℝ) (S : J → EReal)
    (hS : ∀ j, S j = if ok j then (s j : EReal) else ⊥) (j₀ : J) (h₀ : ok j₀) (j : J) :
    Ideal.div (Ideal.exp (S j - Finset.univ.fold max ⊥ S)) (∑ j, Ideal.exp (S j - Finset.univ.fold max ⊥ S))
      = ((wt (ok j) (s j) / ∑ j, wt (ok j) (s j) : ℝ) : EReal) := by
  obtain ⟨M, hM⟩ := fold_real S (fun j => by
    rw [hS]; split
    · exact EReal.coe_ne_top _
    · exact bot_ne_top) j₀ (s j₀) (by rw [hS, if_pos h₀])
  rw [hM]
  have h : ∀ j, Ideal.exp (S j - (M : EReal)) = ((wt (ok j) (s j) * Real.exp (-M) : ℝ) : EReal) := fun j => by
    rw [hS j, exp_score]
  simp only [h]
  have hpos : 0 < ∑ j, wt (ok j) (s j) := by
    refine Finset.sum_pos' (fun j _ => wt_nonneg _ _) ⟨j₀, Finset.mem_univ _, ?_⟩
    rw [wt, if_pos h₀]; exact Real.exp_pos _
  rw [← coe_sum, ← Finset.sum_mul, div_coe _ _ (mul_pos hpos (Real.exp_pos _)).ne']
  congr 1
  have := (Real.exp_pos (-M)).ne'
  field_simp

/-! ### The window's blocks -/

/-- A sum over 4096 keys that vanishes outside the blocks `n - 1`, `n`, `n + 1` of 128 keys. -/
theorem sum_window {A : Type} [AddCommMonoid A] (g : ℕ → A) (n : ℕ) (hn : n < 32)
    (hg : ∀ j, (j < 128 * (n - 1) ∨ 128 * (n + 2) ≤ j) → g j = 0) :
    ∑ j : Fin 4096, g j.val
      = (if 0 < n then ∑ r : Fin 128, g (128 * (n - 1) + r.val) else 0) + ∑ r : Fin 128, g (128 * n + r.val)
        + (if n < 31 then ∑ r : Fin 128, g (128 * (n + 1) + r.val) else 0) := by
  have hb : ∀ a, ∑ r : Fin 128, g (128 * a + r.val) = ∑ j ∈ Finset.Ico (128 * a) (128 * (a + 1)), g j := fun a => by
    rw [Finset.sum_Ico_eq_sum_range, show 128 * (a + 1) - 128 * a = 128 by omega,
      Finset.sum_range (fun k => g (128 * a + k))]
  rw [hb, hb, hb, ← Finset.sum_range (fun j => g j), Finset.range_eq_Ico,
    ← Finset.sum_Ico_consecutive g (m := 0) (n := 128 * n) (k := 4096) (by omega) (by omega),
    ← Finset.sum_Ico_consecutive g (m := 128 * n) (n := 128 * (n + 1)) (k := 4096) (by omega) (by omega), ← add_assoc]
  congr 1
  · congr 1
    split
    · rw [← Finset.sum_Ico_consecutive g (m := 0) (n := 128 * (n - 1)) (k := 128 * n) (by omega) (by omega),
        Finset.sum_eq_zero (s := Finset.Ico 0 (128 * (n - 1))), zero_add, show n - 1 + 1 = n by omega]
      intro j hj
      exact hg j (Or.inl (Finset.mem_Ico.mp hj).2)
    · rw [show n = 0 by omega]; simp
  · split
    · rw [← Finset.sum_Ico_consecutive g (m := 128 * (n + 1)) (n := 128 * (n + 2)) (k := 4096) (by omega) (by omega),
        Finset.sum_eq_zero (s := Finset.Ico (128 * (n + 2)) 4096), add_zero]
      intro j hj
      exact hg j (Or.inr (Finset.mem_Ico.mp hj).1)
    · rw [show n = 31 by omega]; simp

/-- A sum over 640 gathered keys, by the four pieces they come in. -/
theorem sum_gathered {A : Type} [AddCommMonoid A] (f : Fin 640 → A) :
    ∑ j, f j = ∑ r : Fin 128, f ⟨r.val, by omega⟩ + ∑ r : Fin 128, f ⟨128 + r.val, by omega⟩
      + ∑ r : Fin 128, f ⟨256 + r.val, by omega⟩ + ∑ r : Fin 256, f ⟨384 + r.val, by omega⟩ := by
  rw [show (∑ j, f j) = ∑ j : Fin (128 + 128 + 128 + 256), f j from rfl, Fin.sum_univ_add, Fin.sum_univ_add, Fin.sum_univ_add]
  rfl

/-- Key `j` is in the window of query `i`. -/
def inWindow (i j : ℕ) : Prop := i ≤ j + 128 ∧ j ≤ i + 128

instance (i j : ℕ) : Decidable (inWindow i j) := by unfold inWindow; infer_instance

/-- The weights' sum: the window's keys, the context keys and the sink. -/
def total (i : ℕ) (s : ℕ → ℝ) (sc : Fin 256 → ℝ) (t : ℝ) : ℝ :=
  ∑ j : Fin 4096, wt (inWindow i j.val) (s j.val) + ∑ c, Real.exp (sc c) + Real.exp t

/-- Windowed attention at one query: the window's keys and the context keys, weighted by their shares. -/
def attend (i : ℕ) (s : ℕ → ℝ) (sc : Fin 256 → ℝ) (t : ℝ) (v : ℕ → EReal) (vc : Fin 256 → EReal) : EReal :=
  ∑ j : Fin 4096, ((wt (inWindow i j.val) (s j.val) / total i s sc t : ℝ) : EReal) * v j.val
    + ∑ c, ((Real.exp (sc c) / total i s sc t : ℝ) : EReal) * vc c

theorem wt_false (ok : Prop) [Decidable ok] (h : ¬ ok) (s : ℝ) : wt ok s = 0 := if_neg h

/-- The same over the gathered keys: the blocks before, at and after the query's, and the context. -/
theorem gathered_eq_attend (n r : ℕ) (hn : n < 32) (hr : r < 128) (s : ℕ → ℝ) (sc : Fin 256 → ℝ) (t : ℝ) (v : ℕ → EReal)
    (vc : Fin 256 → EReal) (ok : Fin 640 → Prop) [DecidablePred ok] (w : Fin 640 → ℝ) (u : Fin 640 → EReal)
    (ok0 : ∀ a : Fin 128, ok ⟨a.val, by omega⟩ ↔ 0 < n ∧ r ≤ a.val) (ok1 : ∀ a : Fin 128, ok ⟨128 + a.val, by omega⟩)
    (ok2 : ∀ a : Fin 128, ok ⟨256 + a.val, by omega⟩ ↔ n < 31 ∧ a.val ≤ r) (ok3 : ∀ a : Fin 256, ok ⟨384 + a.val, by omega⟩)
    (w0 : 0 < n → ∀ a : Fin 128, w ⟨a.val, by omega⟩ = s (128 * (n - 1) + a.val))
    (w1 : ∀ a : Fin 128, w ⟨128 + a.val, by omega⟩ = s (128 * n + a.val))
    (w2 : n < 31 → ∀ a : Fin 128, w ⟨256 + a.val, by omega⟩ = s (128 * (n + 1) + a.val))
    (w3 : ∀ a : Fin 256, w ⟨384 + a.val, by omega⟩ = sc a)
    (u0 : 0 < n → ∀ a : Fin 128, u ⟨a.val, by omega⟩ = v (128 * (n - 1) + a.val))
    (u1 : ∀ a : Fin 128, u ⟨128 + a.val, by omega⟩ = v (128 * n + a.val))
    (u2 : n < 31 → ∀ a : Fin 128, u ⟨256 + a.val, by omega⟩ = v (128 * (n + 1) + a.val))
    (u3 : ∀ a : Fin 256, u ⟨384 + a.val, by omega⟩ = vc a) :
    ∑ j, ((wt (ok j) (w j) / (∑ j, wt (ok j) (w j) + Real.exp t) : ℝ) : EReal) * u j = attend (128 * n + r) s sc t v vc := by
  have W0 : ∀ a : Fin 128, wt (ok ⟨a.val, by omega⟩) (w ⟨a.val, by omega⟩)
      = if 0 < n then wt (inWindow (128 * n + r) (128 * (n - 1) + a.val)) (s (128 * (n - 1) + a.val)) else 0 := fun a => by
    have hi : 0 < n → (inWindow (128 * n + r) (128 * (n - 1) + a.val) ↔ r ≤ a.val) := fun h => by
      unfold inWindow; omega
    split
    · rename_i h
      have h1 := ok0 a
      rw [w0 h]
      unfold wt
      simp only [h1, hi h, h, true_and]
    · rename_i h
      exact wt_false _ (fun h' => h ((ok0 a).mp h').1) _
  have W1 : ∀ a : Fin 128, wt (ok ⟨128 + a.val, by omega⟩) (w ⟨128 + a.val, by omega⟩)
      = wt (inWindow (128 * n + r) (128 * n + a.val)) (s (128 * n + a.val)) := fun a => by
    have hi : inWindow (128 * n + r) (128 * n + a.val) := by unfold inWindow; omega
    rw [w1]; unfold wt
    simp only [ok1 a, hi]
  have W2 : ∀ a : Fin 128, wt (ok ⟨256 + a.val, by omega⟩) (w ⟨256 + a.val, by omega⟩)
      = if n < 31 then wt (inWindow (128 * n + r) (128 * (n + 1) + a.val)) (s (128 * (n + 1) + a.val)) else 0 := fun a => by
    have hi : inWindow (128 * n + r) (128 * (n + 1) + a.val) ↔ a.val ≤ r := by unfold inWindow; omega
    split
    · rename_i h
      have h1 := ok2 a
      rw [w2 h]
      unfold wt
      simp only [h1, hi, h, true_and]
    · rename_i h
      exact wt_false _ (fun h' => h ((ok2 a).mp h').1) _
  have W3 : ∀ a : Fin 256, wt (ok ⟨384 + a.val, by omega⟩) (w ⟨384 + a.val, by omega⟩) = Real.exp (sc a) := fun a => by
    rw [w3]; unfold wt
    simp only [ok3 a, if_true]
  have out : ∀ j, (j < 128 * (n - 1) ∨ 128 * (n + 2) ≤ j) → wt (inWindow (128 * n + r) j) (s j) = 0 := fun j hj =>
    wt_false _ (by unfold inWindow; omega) _
  have hD : ∑ j, wt (ok j) (w j) + Real.exp t = total (128 * n + r) s sc t := by
    unfold total
    rw [sum_gathered, sum_window (fun j => wt (inWindow (128 * n + r) j) (s j)) n hn out]
    simp only [W0, W1, W2, W3]
    congr 3
    · congr 1
      split <;> simp
    · split <;> simp
  rw [hD]
  unfold attend
  rw [sum_gathered, sum_window (fun j => ((wt (inWindow (128 * n + r) j) (s j) / total (128 * n + r) s sc t : ℝ) : EReal) * v j) n hn
    (fun j hj => by rw [out j hj, zero_div, EReal.coe_zero, zero_mul])]
  simp only [W0, W1, W2, W3, u1, u3]
  congr 2
  · congr 1
    split
    · rename_i h
      simp only [u0 h]
    · simp
  · split
    · rename_i h
      simp only [u2 h]
    · simp

end Cert.Proof.Softmax

end
-- ==== Proof.AttnEntry.lean ====
/-
  The arrays the attention call's blocks are taken from, at an index of the arguments: the scaled queries, and keys and
  values with each key head written twice, side by side.
-/
module

public import proofs.«01_k».proof.Proof.AttnRun
public import proofs.«01_k».proof.Proof.Softmax
public import Idealize.ShloMosaic.Lib.StableHlo.ReadAt
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.TcCoe Idealize.SL.Sem Idealize.ShloMosaic.Tactic

/-- The scale of the queries: the attention's `1/8` over `log 2`. -/
theorem scale_eq : Ideal.div (Ideal.ofBits .f32 0x3E000000#32) (Ideal.log (Ideal.ofBits .f32 0x40000000#32))
    = ((1 / 8 * (Real.log 2)⁻¹ : ℝ) : EReal) := by
  have e8 : Ideal.ofBits .f32 0x3E000000#32 = ((1 / 8 : ℝ) : EReal) := by
    simp [Ideal.ofBits, Ideal.ieee]
    norm_num
    rw [← EReal.coe_mul]
    norm_num
  have e2 : Ideal.ofBits .f32 0x40000000#32 = ((2 : ℝ) : EReal) := by
    simp [Ideal.ofBits, Ideal.ieee]
    norm_num
    rw [← EReal.coe_mul]
    norm_num
  have el : Ideal.log ((2 : ℝ) : EReal) = ((Real.log 2 : ℝ) : EReal) := by
    show (if (2 : ℝ) ≤ 0 then (⊥ : EReal) else ((Real.log 2 : ℝ) : EReal)) = _
    rw [if_neg (by norm_num)]
  rw [e8, e2, el, Softmax.div_coe _ _ (Real.log_pos (by norm_num)).ne', div_eq_mul_inv]

variable (m : (ℓ : Loc nD τ sig) → Buf (Elt Ideal) ℓ) (c : Dev nD)

/-- The call's arguments, as arrays over the extended reals. -/
def argQ : FVec Ideal S8x4096x8x64 .f32 := m (c, Proc.tc.devRef main_arg0)
def argK : FVec Ideal S8x4096x2x64 .f32 := m (c, Proc.tc.devRef main_arg1)
def argV : FVec Ideal S8x4096x2x64 .f32 := m (c, Proc.tc.devRef main_arg2)
def argKC : FVec Ideal S8x256x2x64 .f32 := m (c, Proc.tc.devRef main_arg3)
def argVC : FVec Ideal S8x256x2x64 .f32 := m (c, Proc.tc.devRef main_arg4)
def argSink : FVec Ideal S8 .f32 := m (c, Proc.tc.devRef main_arg5)
def argGain : FVec Ideal S512 .f32 := m (c, Proc.tc.devRef main_arg6)

/-- The queries the call reads: the eight heads side by side, times the scale. -/
theorem q_entry (b : Fin 8) (i : Fin 4096) (n : Fin 512) :
    (V m c main_v5 : _) (ix3 b i n) = argQ m c (ix4 b i ⟨n.val / 64, by omega⟩ ⟨n.val % 64, by omega⟩)
      * ((1 / 8 * (Real.log 2)⁻¹ : ℝ) : EReal) := by
  rw [← scale_eq]
  unfold V argQ
  after_reads_at

/-- The gains the call reads. -/
theorem gain_entry (n : Fin 512) : (V m c main_v46 : _) (ix2 0 n) = argGain m c (ix1 n) := by
  unfold V argGain
  after_reads_at

/-- The keys the call reads: each key head's 64 features twice, side by side. -/
theorem k_entry (b : Fin 8) (i : Fin 4096) (n : Fin 256) :
    (V m c main_v15 : _) (ix3 b i n) = argK m c (ix4 b i ⟨n.val / 128, by omega⟩ ⟨n.val % 64, by omega⟩) := by
  unfold V
  after_reads_at
  have hn := n.isLt
  split
  · after_reads_at
    exact congrArg₂ (fun x y => m (c, Proc.tc.devRef main_arg1) (ix4 b i x y))
      (Fin.ext (by show 0 = n.val / 128; omega)) (Fin.ext (by show n.val = n.val % 64; omega))
  · split
    · after_reads_at
      exact congrArg₂ (fun x y => m (c, Proc.tc.devRef main_arg1) (ix4 b i x y))
        (Fin.ext (by show 0 = n.val / 128; omega)) (Fin.ext (by show n.val - 64 = n.val % 64; omega))
    · split
      · after_reads_at
        exact congrArg₂ (fun x y => m (c, Proc.tc.devRef main_arg1) (ix4 b i x y))
          (Fin.ext (by show 1 = n.val / 128; omega)) (Fin.ext (by show n.val - 64 - 64 = n.val % 64; omega))
      · after_reads_at
        exact congrArg₂ (fun x y => m (c, Proc.tc.devRef main_arg1) (ix4 b i x y))
          (Fin.ext (by show 1 = n.val / 128; omega)) (Fin.ext (by show n.val - 64 - 64 - 64 = n.val % 64; omega))

/-- The values the call reads: each key head's 64 features twice, side by side. -/
theorem v_entry (b : Fin 8) (i : Fin 4096) (n : Fin 256) :
    (V m c main_v25 : _) (ix3 b i n) = argV m c (ix4 b i ⟨n.val / 128, by omega⟩ ⟨n.val % 64, by omega⟩) := by
  unfold V
  after_reads_at
  have hn := n.isLt
  split
  · after_reads_at
    exact congrArg₂ (fun x y => m (c, Proc.tc.devRef main_arg2) (ix4 b i x y))
      (Fin.ext (by show 0 = n.val / 128; omega)) (Fin.ext (by show n.val = n.val % 64; omega))
  · split
    · after_reads_at
      exact congrArg₂ (fun x y => m (c, Proc.tc.devRef main_arg2) (ix4 b i x y))
        (Fin.ext (by show 0 = n.val / 128; omega)) (Fin.ext (by show n.val - 64 = n.val % 64; omega))
    · split
      · after_reads_at
        exact congrArg₂ (fun x y => m (c, Proc.tc.devRef main_arg2) (ix4 b i x y))
          (Fin.ext (by show 1 = n.val / 128; omega)) (Fin.ext (by show n.val - 64 - 64 = n.val % 64; omega))
      · after_reads_at
        exact congrArg₂ (fun x y => m (c, Proc.tc.devRef main_arg2) (ix4 b i x y))
          (Fin.ext (by show 1 = n.val / 128; omega)) (Fin.ext (by show n.val - 64 - 64 - 64 = n.val % 64; omega))

/-- The context keys the call reads: each key head's 64 features twice, side by side. -/
theorem kx_entry (b : Fin 8) (i : Fin 256) (n : Fin 256) :
    (V m c main_v35 : _) (ix3 b i n) = argKC m c (ix4 b i ⟨n.val / 128, by omega⟩ ⟨n.val % 64, by omega⟩) := by
  unfold V
  after_reads_at
  have hn := n.isLt
  split
  · after_reads_at
    exact congrArg₂ (fun x y => m (c, Proc.tc.devRef main_arg3) (ix4 b i x y))
      (Fin.ext (by show 0 = n.val / 128; omega)) (Fin.ext (by show n.val = n.val % 64; omega))
  · split
    · after_reads_at
      exact congrArg₂ (fun x y => m (c, Proc.tc.devRef main_arg3) (ix4 b i x y))
        (Fin.ext (by show 0 = n.val / 128; omega)) (Fin.ext (by show n.val - 64 = n.val % 64; omega))
    · split
      · after_reads_at
        exact congrArg₂ (fun x y => m (c, Proc.tc.devRef main_arg3) (ix4 b i x y))
          (Fin.ext (by show 1 = n.val / 128; omega)) (Fin.ext (by show n.val - 64 - 64 = n.val % 64; omega))
      · after_reads_at
        exact congrArg₂ (fun x y => m (c, Proc.tc.devRef main_arg3) (ix4 b i x y))
          (Fin.ext (by show 1 = n.val / 128; omega)) (Fin.ext (by show n.val - 64 - 64 - 64 = n.val % 64; omega))

/-- The context values the call reads: each key head's 64 features twice, side by side. -/
theorem vx_entry (b : Fin 8) (i : Fin 256) (n : Fin 256) :
    (V m c main_v45 : _) (ix3 b i n) = argVC m c (ix4 b i ⟨n.val / 128, by omega⟩ ⟨n.val % 64, by omega⟩) := by
  unfold V
  after_reads_at
  have hn := n.isLt
  split
  · after_reads_at
    exact congrArg₂ (fun x y => m (c, Proc.tc.devRef main_arg4) (ix4 b i x y))
      (Fin.ext (by show 0 = n.val / 128; omega)) (Fin.ext (by show n.val = n.val % 64; omega))
  · split
    · after_reads_at
      exact congrArg₂ (fun x y => m (c, Proc.tc.devRef main_arg4) (ix4 b i x y))
        (Fin.ext (by show 0 = n.val / 128; omega)) (Fin.ext (by show n.val - 64 = n.val % 64; omega))
    · split
      · after_reads_at
        exact congrArg₂ (fun x y => m (c, Proc.tc.devRef main_arg4) (ix4 b i x y))
          (Fin.ext (by show 1 = n.val / 128; omega)) (Fin.ext (by show n.val - 64 - 64 = n.val % 64; omega))
      · after_reads_at
        exact congrArg₂ (fun x y => m (c, Proc.tc.devRef main_arg4) (ix4 b i x y))
          (Fin.ext (by show 1 = n.val / 128; omega)) (Fin.ext (by show n.val - 64 - 64 - 64 = n.val % 64; omega))

/-- Each window's block is the batch's own slab; the sink and the gains are whole. -/
theorem idx_eq : ∀ t : Fin cfg0.N,
    (win0_0.index t 0 = 0) ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0 ∧ win0_3.index t 2 = 0)
    ∧ (win0_4.index t 0 = t.val ∧ win0_4.index t 1 = 0 ∧ win0_4.index t 2 = 0)
    ∧ (win0_5.index t 0 = t.val ∧ win0_5.index t 1 = 0 ∧ win0_5.index t 2 = 0)
    ∧ (win0_6.index t 0 = 0 ∧ win0_6.index t 1 = 0)
    ∧ (win0_7.index t 0 = t.val ∧ win0_7.index t 1 = 0 ∧ win0_7.index t 2 = 0) := by decide +kernel

variable (t : Fin cfg0.N)

theorem sink_block (n : Fin 8) : iblk m c 0 t (ix1 n) = argSink m c (ix1 n) := by
  obtain ⟨a, -⟩ := idx_eq t
  unfold iblk
  blk_ext!
  all_goals omega

theorem q_block (i : Fin 4096) (n : Fin 512) : iblk m c 1 t (ix3 0 i n) = V m c main_v5 (ix3 ⟨t.val, t.isLt⟩ i n) := by
  obtain ⟨-, ⟨a0, a1, a2⟩, -⟩ := idx_eq t
  unfold iblk
  blk_ext!
  all_goals omega

theorem k_block (i : Fin 4096) (n : Fin 256) : iblk m c 2 t (ix3 0 i n) = V m c main_v15 (ix3 ⟨t.val, t.isLt⟩ i n) := by
  obtain ⟨-, -, ⟨a0, a1, a2⟩, -⟩ := idx_eq t
  unfold iblk
  blk_ext!
  all_goals omega

theorem v_block (i : Fin 4096) (n : Fin 256) : iblk m c 3 t (ix3 0 i n) = V m c main_v25 (ix3 ⟨t.val, t.isLt⟩ i n) := by
  obtain ⟨-, -, -, ⟨a0, a1, a2⟩, -⟩ := idx_eq t
  unfold iblk
  blk_ext!
  all_goals omega

theorem kx_block (i : Fin 256) (n : Fin 256) : iblk m c 4 t (ix3 0 i n) = V m c main_v35 (ix3 ⟨t.val, t.isLt⟩ i n) := by
  obtain ⟨-, -, -, -, ⟨a0, a1, a2⟩, -⟩ := idx_eq t
  unfold iblk
  blk_ext!
  all_goals omega

theorem vx_block (i : Fin 256) (n : Fin 256) : iblk m c 5 t (ix3 0 i n) = V m c main_v45 (ix3 ⟨t.val, t.isLt⟩ i n) := by
  obtain ⟨-, -, -, -, -, ⟨a0, a1, a2⟩, -⟩ := idx_eq t
  unfold iblk
  blk_ext!
  all_goals omega

theorem gain_block (n : Fin 512) : iblk m c 6 t (ix2 0 n) = V m c main_v46 (ix2 0 n) := by
  obtain ⟨-, -, -, -, -, -, ⟨a0, a1⟩, -⟩ := idx_eq t
  unfold iblk
  blk_ext!
  all_goals omega

/-- Where an index of the result's block lies in the result. -/
theorem out_index (y : S1x4096x512.Idx) :
    (win0_7.blk t).view.emb y = ix3 ⟨t.val, t.isLt⟩ (⟨(y 1).val, (y 1).isLt⟩ : Fin 4096) (⟨(y 2).val, (y 2).isLt⟩ : Fin 512) := by
  obtain ⟨-, -, -, -, -, -, -, ⟨a0, a1, a2⟩⟩ := idx_eq t
  have h0 : (y 0).val < 1 := (y 0).isLt
  blk_ext!
  all_goals omega

end Cert.Proof.Attn

end
-- ==== Proof.AttnHalf.lean ====
/-
  What the attention kernel computes for one row, over the extended reals: the masks, the scores, and a pair of heads as
  softmax-weighted sums of the gathered values.
-/
module

public import proofs.«01_k».proof.Proof.AttnBlock
public import proofs.«01_k».proof.Proof.Softmax

@[expose] public section

set_option maxRecDepth 16384

noncomputable section

namespace Cert.Proof.Attn

open Cert.KernelIdeal Cert.KernelIdeal.Gen
open Idealize.ShloMosaic
open Cert.Proof.Softmax

theorem mask_bot : Named.named (F := Ideal) κ "mask" (φ := .f32) 0xF149F2CA#32 = (⊥ : EReal) :=
  (IdealRules.named_const.statement κ "mask" .f32 0xF149F2CA#32 ⊥ rfl).2.2

theorem log2e_inv : Named.named (F := Ideal) κ "log2e" (φ := .f32) 0x3FB8AA3B#32 = (((Real.log 2)⁻¹ : ℝ) : EReal) :=
  (IdealRules.named_const.statement κ "log2e" .f32 0x3FB8AA3B#32 _ rfl).2.2

theorem neg_inf_bot : Ideal.ofBits .f32 0xFF800000#32 = ⊥ := by simp [Ideal.ofBits, Ideal.ieee]

/-- The row within its block of 128, as the kernel computes it. -/
theorem row_word : ∀ R : Fin 256, k0_pay5 (ix2 R (0 : Fin 128)) = BitVec.ofNat 32 (R.val % 128) := by
  intro R
  pointwise [k0_pay5]
  revert R
  decide +kernel

theorem row_word' (R : Fin 256) (d : Fin 128) : k0_pay5 (ix2 R d) = BitVec.ofNat 32 (R.val % 128) := by
  rw [← row_word R]
  pointwise [k0_pay5]

theorem prev_word : ∀ (k : Fin 32), Scalar.select (Scalar.cmpi .sgt (Scf.iv 0#32 1#32 k.val) 0#32) 0#32 128#32
    = if 0 < k.val then 0#32 else 128#32 := by decide +kernel

theorem next_word : ∀ (k : Fin 32), Scalar.select (Scalar.cmpi .slt (Scf.iv 0#32 1#32 k.val) 31#32) 0#32 128#32
    = if k.val < 31 then 0#32 else 128#32 := by decide +kernel

theorem ge_word : ∀ (d a : Fin 128), IntOp.cmpi .sge (BitVec.ofNat 32 d.val) (IntOp.addi (BitVec.ofNat 32 a.val) 0#32) = 1#1 ↔ a.val ≤ d.val := by
  decide +kernel
theorem ge_word' : ∀ (d a : Fin 128), ¬ IntOp.cmpi .sge (BitVec.ofNat 32 d.val) (IntOp.addi (BitVec.ofNat 32 a.val) 128#32) = 1#1 := by
  decide +kernel
theorem le_word : ∀ (d a : Fin 128), IntOp.cmpi .sle (BitVec.ofNat 32 d.val) (IntOp.subi (BitVec.ofNat 32 a.val) 0#32) = 1#1 ↔ d.val ≤ a.val := by
  decide +kernel
theorem le_word' : ∀ (d a : Fin 128), ¬ IntOp.cmpi .sle (BitVec.ofNat 32 d.val) (IntOp.subi (BitVec.ofNat 32 a.val) 128#32) = 1#1 := by
  decide +kernel

/-- The keys of the block before that row `R` sees: those at or after the row's own place, if there is such a block. -/
theorem okPrev_iff (k : Fin k0_t1_loop.trips) (R : Fin 256) (d : Fin 128) :
    okPrev k (ix2 R d) = 1#1 ↔ 0 < k.val ∧ R.val % 128 ≤ d.val := by
  have e : okPrev k (ix2 R d) = IntOp.cmpi .sge (BitVec.ofNat 32 d.val) (IntOp.addi (BitVec.ofNat 32 (R.val % 128))
      (Scalar.select (Scalar.cmpi .sgt (Scf.iv 0#32 1#32 k.val) 0#32) 0#32 128#32)) := by
    rw [← row_word' R d]
    pointwise [okPrev, k0_pay9]
  rw [e, prev_word k]
  split
  · rename_i h
    have := ge_word d ⟨R.val % 128, Nat.mod_lt _ (by decide)⟩
    simp only [this, h, true_and]
  · rename_i h
    have := ge_word' d ⟨R.val % 128, Nat.mod_lt _ (by decide)⟩
    exact ⟨fun h' => absurd h' this, fun h' => absurd h'.1 h⟩

/-- The keys of the block after that row `R` sees: those at or before the row's own place, if there is such a block. -/
theorem okNext_iff (k : Fin k0_t1_loop.trips) (R : Fin 256) (d : Fin 128) :
    okNext k (ix2 R d) = 1#1 ↔ k.val < 31 ∧ d.val ≤ R.val % 128 := by
  have e : okNext k (ix2 R d) = IntOp.cmpi .sle (BitVec.ofNat 32 d.val) (IntOp.subi (BitVec.ofNat 32 (R.val % 128))
      (Scalar.select (Scalar.cmpi .slt (Scf.iv 0#32 1#32 k.val) 31#32) 0#32 128#32)) := by
    rw [← row_word' R d]
    pointwise [okNext, k0_pay10]
  rw [e, next_word k]
  split
  · rename_i h
    have := le_word d ⟨R.val % 128, Nat.mod_lt _ (by decide)⟩
    simp only [this, h, true_and]
  · rename_i h
    have := le_word' d ⟨R.val % 128, Nat.mod_lt _ (by decide)⟩
    exact ⟨fun h' => absurd h' this, fun h' => absurd h'.1 h⟩

/-- The gathered keys that row `R` sees. -/
def seen (okp okn : IVec S256x128 1) (R : Fin 256) (j : Fin 640) : Prop :=
  (∀ h : j.val < 128, okp (ix2 R ⟨j.val, h⟩) = 1#1) ∧
    (∀ h : 256 ≤ j.val ∧ j.val < 384, okn (ix2 R ⟨j.val - 256, by omega⟩) = 1#1)

instance (okp okn : IVec S256x128 1) (R : Fin 256) : DecidablePred (seen okp okn R) := fun j => by
  unfold seen; infer_instance

/-- The masked scores at an index. -/
theorem masked_apply (okp okn : IVec S256x128 1) (s : FVec Ideal S256x640 .f32) (R : Fin 256) (j : Fin 640) :
    k0_pay40 okp okn s (ix2 R j) = if seen okp okn R j then s (ix2 R j) else ⊥ := by
  have hj := j.isLt
  have e : k0_pay40 okp okn s (ix2 R j)
      = if h : j.val < 128 then Scalar.select (okp (ix2 R ⟨j.val, h⟩)) (s (ix2 R j)) (Named.named (F := Ideal) κ "mask" (φ := .f32) 0xF149F2CA#32)
        else if h : j.val - 128 < 128 then s (ix2 R ⟨128 + (j.val - 128), by omega⟩)
        else if h : j.val - 128 - 128 < 128 then
          Scalar.select (okn (ix2 R ⟨j.val - 128 - 128, h⟩)) (s (ix2 R ⟨256 + (j.val - 128 - 128), by omega⟩)) (Named.named (F := Ideal) κ "mask" (φ := .f32) 0xF149F2CA#32)
        else s (ix2 R ⟨384 + (j.val - 128 - 128 - 128), by omega⟩) := by
    pointwise [k0_pay40]
  rw [e, mask_bot]
  clear e
  by_cases h1 : j.val < 128
  · rw [dif_pos h1]
    by_cases h : okp (ix2 R ⟨j.val, h1⟩) = 1#1
    · rw [if_pos (show seen okp okn R j from ⟨fun _ => h, fun h' => absurd h' (by omega)⟩), h]; rfl
    · rw [if_neg (fun (h' : seen okp okn R j) => h (h'.1 h1))]
      exact if_neg h
  · rw [dif_neg h1]
    by_cases h2 : j.val - 128 < 128
    · rw [dif_pos h2, if_pos (show seen okp okn R j from ⟨fun h' => absurd h' h1, fun h' => absurd h' (by omega)⟩)]
      exact congrArg (fun x => s (ix2 R x)) (Fin.ext (by show 128 + (j.val - 128) = j.val; omega))
    · rw [dif_neg h2]
      by_cases h3 : j.val - 128 - 128 < 128
      · rw [dif_pos h3]
        have e : (⟨j.val - 128 - 128, h3⟩ : Fin 128) = ⟨j.val - 256, by omega⟩ := Fin.ext (by show j.val - 128 - 128 = j.val - 256; omega)
        have e' : (⟨256 + (j.val - 128 - 128), by omega⟩ : Fin 640) = j := Fin.ext (by show 256 + (j.val - 128 - 128) = j.val; omega)
        rw [e, e']
        by_cases h : okn (ix2 R ⟨j.val - 256, by omega⟩) = 1#1
        · rw [if_pos (show seen okp okn R j from ⟨fun h' => absurd h' h1, fun _ => h⟩), h]; rfl
        · rw [if_neg (fun (h' : seen okp okn R j) => h (h'.2 ⟨by omega, by omega⟩))]
          exact if_neg h
      · rw [dif_neg h3, if_pos (show seen okp okn R j from ⟨fun h' => absurd h' h1, fun h' => absurd h' (by omega)⟩)]
        exact congrArg (fun x => s (ix2 R x)) (Fin.ext (by show 384 + (j.val - 128 - 128 - 128) = j.val; omega))

/-- A sum over the 128 lanes of which half `e` alone is not zero. -/
theorem dot_half (e : ℕ) (he : e < 2) (a b : Fin 128 → EReal) :
    ∑ l, a l * (if l.val / 64 = e then b l else 0) = ∑ l : Fin 64, a ⟨64 * e + l.val, by omega⟩ * b ⟨64 * e + l.val, by omega⟩ := by
  rw [show (∑ l, a l * (if l.val / 64 = e then b l else 0)) = ∑ l : Fin (64 + 64), a l * (if l.val / 64 = e then b l else 0) from rfl,
    Fin.sum_univ_add]
  have hz : ∀ f : Fin 64 → EReal, (∀ l, f l = 0) → ∑ l, f l = 0 := fun f h => Finset.sum_eq_zero fun l _ => h l
  rcases (by omega : e = 0 ∨ e = 1) with rfl | rfl
  · refine (congrArg₂ (· + ·) (Finset.sum_congr rfl fun l _ => ?_) (hz _ fun l => ?_)).trans (add_zero _)
    · have hl : (Fin.castAdd 64 l).val / 64 = 0 := by have := l.isLt; simp only [Fin.val_castAdd]; omega
      rw [if_pos hl]
      have : (⟨64 * 0 + l.val, by omega⟩ : Fin 128) = Fin.castAdd 64 l := Fin.ext (by show 64 * 0 + l.val = l.val; omega)
      rw [this]
    · have hl : ¬ (Fin.natAdd 64 l).val / 64 = 0 := by have := l.isLt; simp only [Fin.val_natAdd]; omega
      rw [if_neg hl, mul_zero]
  · refine (congrArg₂ (· + ·) (hz _ fun l => ?_) (Finset.sum_congr rfl fun l _ => ?_)).trans (zero_add _)
    · have hl : ¬ (Fin.castAdd 64 l).val / 64 = 1 := by have := l.isLt; simp only [Fin.val_castAdd]; omega
      rw [if_neg hl, mul_zero]
    · have hl : (Fin.natAdd 64 l).val / 64 = 1 := by have := l.isLt; simp only [Fin.val_natAdd]; omega
      rw [if_pos hl]
      have : (⟨64 * 1 + l.val, by omega⟩ : Fin 128) = Fin.natAdd 64 l := Fin.ext (by show 64 * 1 + l.val = 64 + l.val; omega)
      rw [this]

/-- One head of a pair, at one row and lane: the weighted values in the head's own lanes, zero in the other's. -/
theorem half_apply (okp okn : IVec S256x128 1) (sk : FVec Ideal S256x1 .f32) (q2 : FVec Ideal S256x128 .bf16)
    (km vm kc vc : FVec Ideal S640x128 .bf16) (R : Fin 256) (d : Fin 128) (e : ℕ) (he : e < 2)
    (hkm : ∀ (j : Fin 640) (l : Fin 128), km (ix2 j l) = if l.val / 64 = e then kc (ix2 j l) else 0)
    (hvm : ∀ (j : Fin 640) (l : Fin 128), vm (ix2 j l) = if l.val / 64 = e then vc (ix2 j l) else 0)
    (qr : Fin 64 → ℝ) (kr : Fin 640 → Fin 64 → ℝ) (t : ℝ)
    (hq : ∀ l : Fin 64, q2 (ix2 R ⟨64 * e + l.val, by omega⟩) = ((qr l * (1 / 8 * (Real.log 2)⁻¹) : ℝ) : EReal))
    (hk : ∀ (j : Fin 640) (l : Fin 64), kc (ix2 j ⟨64 * e + l.val, by omega⟩) = (kr j l : EReal))
    (ht : sk (ix2 R 0) = ((t * (Real.log 2)⁻¹ : ℝ) : EReal)) :
    halfOut okp okn sk q2 km vm (ix2 R d)
      = ∑ j, ((wt (seen okp okn R j) (1 / 8 * ∑ l, qr l * kr j l)
          / (∑ j, wt (seen okp okn R j) (1 / 8 * ∑ l, qr l * kr j l) + Real.exp t) : ℝ) : EReal) * vm (ix2 j d) := by
  have hs : ∀ j, k0_pay40 okp okn (k0_pay31 q2 km) (ix2 R j)
      = if seen okp okn R j then (((1 / 8 * ∑ l, qr l * kr j l) * (Real.log 2)⁻¹ : ℝ) : EReal) else ⊥ := fun j => by
    rw [masked_apply]
    congr 1
    have : k0_pay31 q2 km (ix2 R j) = ∑ x, q2 (ix2 R x) * km (ix2 j x) := by pointwise [k0_pay31]
    rw [this]
    simp only [hkm]
    rw [dot_half e he (fun l => q2 (ix2 R l)) (fun l => kc (ix2 j l))]
    simp only [hq, hk, ← EReal.coe_mul]
    rw [← coe_sum]
    congr 1
    rw [Finset.mul_sum, Finset.sum_mul]
    refine Finset.sum_congr rfl fun l _ => ?_
    ring
  unfold halfOut
  pointwise [k0_pay51, k0_pay48, k0_pay44]
  rw [neg_inf_bot]
  exact softmax_exp2 (seen okp okn R) (fun j => 1 / 8 * ∑ l, qr l * kr j l) t _ hs _ ht (fun j => vm (ix2 j d))

/-- The lanes below 64 kept. -/
theorem left_apply (x : FVec Ideal S640x128 .bf16) (j : Fin 640) (l : Fin 128) :
    k0_pay16 k0_pay6 k0_pay7 x (ix2 j l) = if l.val / 64 = 0 then x (ix2 j l) else 0 := by
  have h : ∀ l : Fin 128, IntOp.cmpi .slt (BitVec.ofNat 32 l.val) 64#32 = if l.val / 64 = 0 then 1#1 else 0#1 := by decide +kernel
  pointwise [k0_pay16, k0_pay6, k0_pay7]
  rw [h l]
  split <;> rfl

/-- The lanes from 64 on kept. -/
theorem right_apply (x : FVec Ideal S640x128 .bf16) (j : Fin 640) (l : Fin 128) :
    k0_pay19 k0_pay6 k0_pay7 x (ix2 j l) = if l.val / 64 = 1 then x (ix2 j l) else 0 := by
  have h : ∀ l : Fin 128, IntOp.cmpi .slt (BitVec.ofNat 32 l.val) 64#32 = if l.val / 64 = 1 then 0#1 else 1#1 := by decide +kernel
  pointwise [k0_pay19, k0_pay6, k0_pay7]
  rw [h l]
  split <;> rfl

/-- A pair of heads at one row and lane: the lane's own head. -/
theorem pair_apply (okp okn : IVec S256x128 1) (skl skr : FVec Ideal S256x1 .f32) (q2 : FVec Ideal S256x128 .bf16)
    (kc vc : FVec Ideal S640x128 .bf16) (R : Fin 256) (d : Fin 128)
    (qr : ℕ → Fin 64 → ℝ) (kr : Fin 640 → Fin 64 → ℝ) (t : ℕ → ℝ)
    (hq : ∀ (e : ℕ) (he : e < 2) (l : Fin 64), q2 (ix2 R ⟨64 * e + l.val, by omega⟩) = ((qr e l * (1 / 8 * (Real.log 2)⁻¹) : ℝ) : EReal))
    (hk : ∀ (e : ℕ) (he : e < 2) (j : Fin 640) (l : Fin 64), kc (ix2 j ⟨64 * e + l.val, by omega⟩) = (kr j l : EReal))
    (hl : skl (ix2 R 0) = ((t 0 * (Real.log 2)⁻¹ : ℝ) : EReal)) (hr : skr (ix2 R 0) = ((t 1 * (Real.log 2)⁻¹ : ℝ) : EReal)) :
    pairOut okp okn skl skr q2 kc vc (ix2 R d)
      = ∑ j, ((wt (seen okp okn R j) (1 / 8 * ∑ l, qr (d.val / 64) l * kr j l)
          / (∑ j, wt (seen okp okn R j) (1 / 8 * ∑ l, qr (d.val / 64) l * kr j l) + Real.exp (t (d.val / 64))) : ℝ) : EReal) * vc (ix2 j d) := by
  have hz : ∀ f : Fin 640 → EReal, (∀ l, f l = 0) → ∑ l, f l = 0 := fun f h => Finset.sum_eq_zero fun l _ => h l
  have hd := d.isLt
  unfold pairOut
  show _ + _ = _
  rw [half_apply okp okn skl q2 _ _ kc vc R d 0 (by omega) (left_apply kc) (left_apply vc) (qr 0) kr (t 0) (hq 0 (by omega)) (hk 0 (by omega)) hl,
    half_apply okp okn skr q2 _ _ kc vc R d 1 (by omega) (right_apply kc) (right_apply vc) (qr 1) kr (t 1) (hq 1 (by omega)) (hk 1 (by omega)) hr]
  simp only [left_apply, right_apply]
  rcases (by omega : d.val / 64 = 0 ∨ d.val / 64 = 1) with h | h
  · simp only [h, if_true, if_neg (show ¬ (0 = 1) by decide)]
    exact (congrArg₂ (· + ·) rfl (hz _ fun l => mul_zero _)).trans (add_zero _)
  · simp only [h, if_true, if_neg (show ¬ (1 = 0) by decide)]
    exact (congrArg₂ (· + ·) (hz _ fun l => mul_zero _) rfl).trans (zero_add _)

end Cert.Proof.Attn

end
-- ==== Proof.AttnPair.lean ====
/-
  A pair of heads over the extended reals: windowed attention of the lane's own head.
-/
module

public import proofs.«01_k».proof.Proof.AttnHalf

@[expose] public section

set_option maxRecDepth 16384

noncomputable section

namespace Cert.Proof.Attn

open Cert.KernelIdeal Cert.KernelIdeal.Gen
open Idealize.ShloMosaic
open Cert.Proof.Softmax

/-- What the gathered rows hold: the blocks before, at and after row block `k` of an array, and the context rows. -/
structure Gathered (k : ℕ) (g : FVec Ideal S640x128 .bf16) (X XC : ℕ → ℕ → EReal) : Prop where
  prev : ∀ (a l : Fin 128), g (ix2 ⟨a.val, by omega⟩ l) = X (128 * (k - 1) + a.val) (l.val % 64)
  cur : ∀ (a l : Fin 128), g (ix2 ⟨128 + a.val, by omega⟩ l) = X (128 * k + a.val) (l.val % 64)
  next : ∀ (a l : Fin 128), g (ix2 ⟨256 + a.val, by omega⟩ l) = X (128 * min (k + 1) 31 + a.val) (l.val % 64)
  ctx : ∀ (a : Fin 256) (l : Fin 128), g (ix2 ⟨384 + a.val, by omega⟩ l) = XC a.val (l.val % 64)

/-- The gathered rows of an array of real numbers, as real numbers. -/
def rowsOf (k : ℕ) (K KC : ℕ → ℕ → ℝ) (j : Fin 640) (l : Fin 64) : ℝ :=
  if j.val < 128 then K (128 * (k - 1) + j.val) l.val
  else if j.val < 256 then K (128 * k + (j.val - 128)) l.val
  else if j.val < 384 then K (128 * min (k + 1) 31 + (j.val - 256)) l.val
  else KC (j.val - 384) l.val

theorem rowsOf_eq (k : ℕ) (K KC : ℕ → ℕ → ℝ) (g : FVec Ideal S640x128 .bf16)
    (h : Gathered k g (fun j l => (K j l : EReal)) (fun j l => (KC j l : EReal))) (e : ℕ) (he : e < 2) (j : Fin 640) (l : Fin 64) :
    g (ix2 j ⟨64 * e + l.val, by omega⟩) = (rowsOf k K KC j l : EReal) := by
  have hj := j.isLt
  have hl : (64 * e + l.val) % 64 = l.val := by have := l.isLt; omega
  unfold rowsOf
  by_cases h1 : j.val < 128
  · rw [if_pos h1]
    refine (h.prev ⟨j.val, h1⟩ ⟨64 * e + l.val, by omega⟩).trans ?_
    show ((K _ ((64 * e + l.val) % 64) : ℝ) : EReal) = _
    rw [hl]
  rw [if_neg h1]
  by_cases h2 : j.val < 256
  · rw [if_pos h2]
    have ej : (⟨128 + (j.val - 128), by omega⟩ : Fin 640) = j := Fin.ext (by show 128 + (j.val - 128) = j.val; omega)
    have := h.cur ⟨j.val - 128, by omega⟩ ⟨64 * e + l.val, by omega⟩
    rw [ej] at this
    refine this.trans ?_
    show ((K _ ((64 * e + l.val) % 64) : ℝ) : EReal) = _
    rw [hl]
  rw [if_neg h2]
  by_cases h3 : j.val < 384
  · rw [if_pos h3]
    have ej : (⟨256 + (j.val - 256), by omega⟩ : Fin 640) = j := Fin.ext (by show 256 + (j.val - 256) = j.val; omega)
    have := h.next ⟨j.val - 256, by omega⟩ ⟨64 * e + l.val, by omega⟩
    rw [ej] at this
    refine this.trans ?_
    show ((K _ ((64 * e + l.val) % 64) : ℝ) : EReal) = _
    rw [hl]
  rw [if_neg h3]
  have ej : (⟨384 + (j.val - 384), by omega⟩ : Fin 640) = j := Fin.ext (by show 384 + (j.val - 384) = j.val; omega)
  have := h.ctx ⟨j.val - 384, by omega⟩ ⟨64 * e + l.val, by omega⟩
  rw [ej] at this
  refine this.trans ?_
  show ((KC _ ((64 * e + l.val) % 64) : ℝ) : EReal) = _
  rw [hl]

/-- A pair of heads at one row and lane is windowed attention of the lane's head at the row's query. -/
theorem pair_attend (k : Fin k0_t1_loop.trips) (skl skr : FVec Ideal S256x1 .f32) (q2 : FVec Ideal S256x128 .bf16)
    (kc vc : FVec Ideal S640x128 .bf16) (R : Fin 256) (d : Fin 128)
    (qr : ℕ → Fin 64 → ℝ) (K KC : ℕ → ℕ → ℝ) (V VC : ℕ → ℕ → EReal) (t : ℕ → ℝ)
    (hq : ∀ (e : ℕ) (he : e < 2) (l : Fin 64), q2 (ix2 R ⟨64 * e + l.val, by omega⟩) = ((qr e l * (1 / 8 * (Real.log 2)⁻¹) : ℝ) : EReal))
    (hk : Gathered k.val kc (fun j l => (K j l : EReal)) (fun j l => (KC j l : EReal)))
    (hv : Gathered k.val vc V VC)
    (hl : skl (ix2 R 0) = ((t 0 * (Real.log 2)⁻¹ : ℝ) : EReal)) (hr : skr (ix2 R 0) = ((t 1 * (Real.log 2)⁻¹ : ℝ) : EReal)) :
    pairOut (okPrev k) (okNext k) skl skr q2 kc vc (ix2 R d)
      = attend (128 * k.val + R.val % 128) (fun j => 1 / 8 * ∑ l : Fin 64, qr (d.val / 64) l * K j l.val)
          (fun a => 1 / 8 * ∑ l : Fin 64, qr (d.val / 64) l * KC a.val l.val) (t (d.val / 64))
          (fun j => V j (d.val % 64)) (fun a => VC a.val (d.val % 64)) := by
  have hk32 : k.val < 32 := k.isLt
  rw [pair_apply (okPrev k) (okNext k) skl skr q2 kc vc R d qr (rowsOf k.val K KC) t hq (rowsOf_eq k.val K KC kc hk) hl hr]
  refine gathered_eq_attend k.val (R.val % 128) hk32 (Nat.mod_lt _ (by decide)) _ _ _ _ _ (seen (okPrev k) (okNext k) R) _ (fun j => vc (ix2 j d))
    ?_ ?_ ?_ ?_ ?_ ?_ ?_ ?_ ?_ ?_ ?_ ?_
  · intro a
    refine Iff.trans ?_ (okPrev_iff k R a)
    exact ⟨fun h => h.1 a.isLt, fun h => ⟨fun _ => h, fun h' => absurd h'.1 (by have := a.isLt; show ¬ 256 ≤ a.val; omega)⟩⟩
  · intro a
    exact ⟨fun h => absurd h (by show ¬ 128 + a.val < 128; omega), fun h => absurd h.1 (by have := a.isLt; show ¬ 256 ≤ 128 + a.val; omega)⟩
  · intro a
    refine Iff.trans ?_ (okNext_iff k R a)
    have ea : (⟨256 + a.val - 256, by omega⟩ : Fin 128) = a := Fin.ext (by show 256 + a.val - 256 = a.val; omega)
    refine ⟨fun h => ?_, fun h => ⟨fun h' => absurd h' (by show ¬ 256 + a.val < 128; omega), fun h' => ?_⟩⟩
    · have := h.2 ⟨by show 256 ≤ 256 + a.val; omega, by have := a.isLt; show 256 + a.val < 384; omega⟩
      exact (congrArg (fun x => okNext k (ix2 R x)) ea).symm.trans this
    · exact (congrArg (fun x => okNext k (ix2 R x)) ea).trans h
  · intro a
    exact ⟨fun h => absurd h (by show ¬ 384 + a.val < 128; omega), fun h => absurd h.2 (by show ¬ 384 + a.val < 384; omega)⟩
  · intro _ a
    refine congrArg (fun x => 1 / 8 * x) (Finset.sum_congr rfl fun l _ => congrArg _ ?_)
    exact if_pos a.isLt
  · intro a
    refine congrArg (fun x => 1 / 8 * x) (Finset.sum_congr rfl fun l _ => congrArg _ ?_)
    have h := a.isLt
    refine (if_neg (by show ¬ 128 + a.val < 128; omega)).trans ((if_pos (by show 128 + a.val < 256; omega)).trans ?_)
    exact congrArg (fun x => K (128 * k.val + x) l.val) (by show 128 + a.val - 128 = a.val; omega)
  · intro hn a
    refine congrArg (fun x => 1 / 8 * x) (Finset.sum_congr rfl fun l _ => congrArg _ ?_)
    have h := a.isLt
    refine (if_neg (by show ¬ 256 + a.val < 128; omega)).trans ((if_neg (by show ¬ 256 + a.val < 256; omega)).trans
      ((if_pos (by show 256 + a.val < 384; omega)).trans ?_))
    exact congrArg (fun x => K x l.val) (by show 128 * min (k.val + 1) 31 + (256 + a.val - 256) = 128 * (k.val + 1) + a.val; omega)
  · intro a
    refine congrArg (fun x => 1 / 8 * x) (Finset.sum_congr rfl fun l _ => congrArg _ ?_)
    refine (if_neg (by show ¬ 384 + a.val < 128; omega)).trans ((if_neg (by show ¬ 384 + a.val < 256; omega)).trans
      ((if_neg (by show ¬ 384 + a.val < 384; omega)).trans ?_))
    exact congrArg (fun x => KC x l.val) (by show 384 + a.val - 384 = a.val; omega)
  · intro _ a
    exact hv.prev a d
  · intro a
    exact hv.cur a d
  · intro hn a
    refine (hv.next a d).trans ?_
    exact congrArg (fun x => V x (d.val % 64)) (by show 128 * min (k.val + 1) 31 + a.val = 128 * (k.val + 1) + a.val; omega)
  · intro a
    exact hv.ctx a d

theorem off1_eq : ∀ k : Fin k0_t1_loop.trips, k0_off1 k = ![0, 128 * (k.val - 1), 0] := by decide +kernel
theorem off6_eq : ∀ k : Fin k0_t1_loop.trips, k0_off6 k = ![0, 128 * (k.val - 1), 128] := by decide +kernel

end Cert.Proof.Attn

end
-- ==== Proof.AttnAcc.lean ====
/-
  What the attention kernel writes for one row block, over the extended reals: windowed attention of each head.
-/
module

public import proofs.«01_k».proof.Proof.AttnPair
public import Idealize.ShloMosaic.Lib.Pipeline.ValueKit

@[expose] public section

set_option maxRecDepth 16384

noncomputable section

namespace Cert.Proof.Attn

open Cert.KernelIdeal Cert.KernelIdeal.Gen
open Idealize.ShloMosaic Idealize.ShloMosaic.Tactic
open Idealize.ShloMosaic.View (Piece canon ld)
open Cert.Proof.Softmax

/-- A block of rows read from an array. -/
theorem ld_rows (N M a b : ℕ) (x : (⟨3, ![1, N, M]⟩ : Shape).Idx → EReal) (off : Fin 3 → ℕ)
    (h : ∀ i, off i + (⟨3, ![1, a, b]⟩ : Shape).size i ≤ (⟨3, ![1, N, M]⟩ : Shape).size i)
    (o1 o2 : ℕ) (ho : off = ![0, o1, o2]) (r : Fin a) (l : Fin b) (h1 : o1 + r.val < N) (h2 : o2 + l.val < M) :
    (ld (Val := Elt Ideal) (e' := .f32) x (Rect.unit (s := ⟨3, ![1, N, M]⟩) off (⟨3, ![1, a, b]⟩ : Shape).size h)) (ix3 0 r l) = x (ix3 0 ⟨o1 + r.val, h1⟩ ⟨o2 + l.val, h2⟩) := by
  subst ho
  refine congrArg x (funext fun i => Fin.ext ?_)
  fin_cases i
  · rfl
  · simp [ix3]
  · simp [ix3]

/-- The whole of an array of rows. -/
theorem ld_all (X : S128x512.Idx → EReal) (r : Fin 128) (c : Fin 512) :
    (ld (Val := Elt Ideal) (e' := .f32) X (Rect.unit (s := S128x512) ![0, 0] S128x512.size inb_S128x512_S128x512_0_0)) (ix2 r c) = X (ix2 r c) := by
  refine congrArg X (funext fun i => Fin.ext ?_)
  fin_cases i
  · simp [ix2]
  · simp [ix2]

section Gather

variable (A B C : Vec Ideal S1x128x128 .bf16) (D : Vec Ideal S1x256x128 .bf16)

theorem pay11_apply (j : Fin 640) (l : Fin 128) : k0_pay11 A B C D (ix2 j l)
    = if h : j.val < 128 then A (ix3 0 ⟨j.val, h⟩ l)
      else if h : j.val - 128 < 128 then B (ix3 0 ⟨j.val - 128, h⟩ l)
      else if h : j.val - 128 - 128 < 128 then C (ix3 0 ⟨j.val - 128 - 128, h⟩ l)
      else D (ix3 0 ⟨j.val - 128 - 128 - 128, by have := j.isLt; omega⟩ l) := by
  pointwise [k0_pay11]

theorem pay11_prev (a l : Fin 128) : k0_pay11 A B C D (ix2 ⟨a.val, by omega⟩ l) = A (ix3 0 a l) := by
  rw [pay11_apply]
  exact dif_pos a.isLt

theorem pay11_cur (a l : Fin 128) : k0_pay11 A B C D (ix2 ⟨128 + a.val, by omega⟩ l) = B (ix3 0 a l) := by
  have ha := a.isLt
  rw [pay11_apply, dif_neg (by show ¬ 128 + a.val < 128; omega), dif_pos (by show 128 + a.val - 128 < 128; omega)]
  exact congrArg (fun x => B (ix3 0 x l)) (Fin.ext (by show 128 + a.val - 128 = a.val; omega))

theorem pay11_next (a l : Fin 128) : k0_pay11 A B C D (ix2 ⟨256 + a.val, by omega⟩ l) = C (ix3 0 a l) := by
  have ha := a.isLt
  rw [pay11_apply, dif_neg (by show ¬ 256 + a.val < 128; omega), dif_neg (by show ¬ 256 + a.val - 128 < 128; omega),
    dif_pos (by show 256 + a.val - 128 - 128 < 128; omega)]
  exact congrArg (fun x => C (ix3 0 x l)) (Fin.ext (by show 256 + a.val - 128 - 128 = a.val; omega))

theorem pay11_ctx (a : Fin 256) (l : Fin 128) : k0_pay11 A B C D (ix2 ⟨384 + a.val, by omega⟩ l) = D (ix3 0 a l) := by
  have ha := a.isLt
  rw [pay11_apply, dif_neg (by show ¬ 384 + a.val < 128; omega), dif_neg (by show ¬ 384 + a.val - 128 < 128; omega),
    dif_neg (by show ¬ 384 + a.val - 128 - 128 < 128; omega)]
  exact congrArg (fun x => D (ix3 0 x l)) (Fin.ext (by show 384 + a.val - 128 - 128 - 128 = a.val; omega))

end Gather

/-- The rows gathered for key head 0. -/
theorem gathered0 (k : Fin k0_t1_loop.trips) (x : S1x4096x256.Idx → EReal) (y : S1x256x256.Idx → EReal) (X XC : ℕ → ℕ → ℕ → EReal)
    (hx : ∀ (i : Fin 4096) (c : Fin 256), x (ix3 0 i c) = X i.val (c.val / 128) (c.val % 64))
    (hy : ∀ (i : Fin 256) (c : Fin 256), y (ix3 0 i c) = XC i.val (c.val / 128) (c.val % 64)) :
    Gathered k.val (gather0 (F := Ideal) k x y) (fun j l => X j 0 l) (fun j l => XC j 0 l) := by
  have hk : k.val < 32 := k.isLt
  have hc : ∀ l : Fin 128, (0 + l.val) / 128 = 0 := fun l => by have := l.isLt; omega
  have hm : ∀ l : Fin 128, (0 + l.val) % 64 = l.val % 64 := fun l => by omega
  refine ⟨fun a l => ?_, fun a l => ?_, fun a l => ?_, fun a l => ?_⟩
  · refine (pay11_prev _ _ _ _ a l).trans ?_
    rw [ld_rows 4096 256 128 128 x _ _ (128 * (k.val - 1)) 0 (off1_eq k) a l (by omega) (by omega), hx]
    show X _ ((0 + l.val) / 128) ((0 + l.val) % 64) = _
    rw [hc, hm]
  · refine (pay11_cur _ _ _ _ a l).trans ?_
    rw [ld_rows 4096 256 128 128 x _ _ (128 * k.val) 0 (k0_off2_eq k) a l (by omega) (by omega), hx]
    show X _ ((0 + l.val) / 128) ((0 + l.val) % 64) = _
    rw [hc, hm]
  · refine (pay11_next _ _ _ _ a l).trans ?_
    rw [ld_rows 4096 256 128 128 x _ _ (128 * min (k.val + 1) 31) 0 (k0_off3_eq k) a l (by omega) (by omega), hx]
    show X _ ((0 + l.val) / 128) ((0 + l.val) % 64) = _
    rw [hc, hm]
  · refine (pay11_ctx _ _ _ _ a l).trans ?_
    rw [ld_rows 256 256 256 128 y _ _ 0 0 rfl a l (by omega) (by omega), hy]
    show XC (0 + a.val) ((0 + l.val) / 128) ((0 + l.val) % 64) = _
    rw [hc, hm, Nat.zero_add]

/-- The rows gathered for key head 1. -/
theorem gathered1 (k : Fin k0_t1_loop.trips) (x : S1x4096x256.Idx → EReal) (y : S1x256x256.Idx → EReal) (X XC : ℕ → ℕ → ℕ → EReal)
    (hx : ∀ (i : Fin 4096) (c : Fin 256), x (ix3 0 i c) = X i.val (c.val / 128) (c.val % 64))
    (hy : ∀ (i : Fin 256) (c : Fin 256), y (ix3 0 i c) = XC i.val (c.val / 128) (c.val % 64)) :
    Gathered k.val (gather1 (F := Ideal) k x y) (fun j l => X j 1 l) (fun j l => XC j 1 l) := by
  have hk : k.val < 32 := k.isLt
  have hc : ∀ l : Fin 128, (128 + l.val) / 128 = 1 := fun l => by have := l.isLt; omega
  have hm : ∀ l : Fin 128, (128 + l.val) % 64 = l.val % 64 := fun l => by omega
  refine ⟨fun a l => ?_, fun a l => ?_, fun a l => ?_, fun a l => ?_⟩
  · refine (pay11_prev _ _ _ _ a l).trans ?_
    rw [ld_rows 4096 256 128 128 x _ _ (128 * (k.val - 1)) 128 (off6_eq k) a l (by omega) (by omega), hx]
    show X _ ((128 + l.val) / 128) ((128 + l.val) % 64) = _
    rw [hc, hm]
  · refine (pay11_cur _ _ _ _ a l).trans ?_
    rw [ld_rows 4096 256 128 128 x _ _ (128 * k.val) 128 (k0_off7_eq k) a l (by omega) (by omega), hx]
    show X _ ((128 + l.val) / 128) ((128 + l.val) % 64) = _
    rw [hc, hm]
  · refine (pay11_next _ _ _ _ a l).trans ?_
    rw [ld_rows 4096 256 128 128 x _ _ (128 * min (k.val + 1) 31) 128 (k0_off8_eq k) a l (by omega) (by omega), hx]
    show X _ ((128 + l.val) / 128) ((128 + l.val) % 64) = _
    rw [hc, hm]
  · refine (pay11_ctx _ _ _ _ a l).trans ?_
    rw [ld_rows 256 256 256 128 y _ _ 0 128 rfl a l (by omega) (by omega), hy]
    show XC (0 + a.val) ((128 + l.val) / 128) ((128 + l.val) % 64) = _
    rw [hc, hm, Nat.zero_add]

/-- The queries of two heads, one above the other. -/
theorem q_rows (k : Fin k0_t1_loop.trips) (x : S1x4096x512.Idx → EReal) (Q : ℕ → ℕ → ℝ)
    (hx : ∀ (i : Fin 4096) (c : Fin 512), x (ix3 0 i c) = ((Q i.val c.val * (1 / 8 * (Real.log 2)⁻¹) : ℝ) : EReal))
    (c0 c1 : ℕ) (offa offb : Fin 3 → ℕ)
    (ha : ∀ i, offa i + S1x128x128.size i ≤ S1x4096x512.size i) (hb : ∀ i, offb i + S1x128x128.size i ≤ S1x4096x512.size i)
    (ea : offa = ![0, 128 * k.val, c0]) (eb : offb = ![0, 128 * k.val, c1]) (R : Fin 256) (l : Fin 128) (n : ℕ)
    (h0 : c0 + 128 ≤ 512) (h1 : c1 + 128 ≤ 512) (hn : n = (if R.val < 128 then c0 else c1) + l.val) :
    k0_pay26 (F := Ideal) (ld (Val := Elt Ideal) (e' := .bf16) x (Rect.unit (s := S1x4096x512) offa S1x128x128.size ha)) (ld (Val := Elt Ideal) (e' := .bf16) x (Rect.unit (s := S1x4096x512) offb S1x128x128.size hb)) (ix2 R l)
      = ((Q (128 * k.val + R.val % 128) n * (1 / 8 * (Real.log 2)⁻¹) : ℝ) : EReal) := by
  have hk : k.val < 32 := k.isLt
  have hR := R.isLt
  have e : ∀ A B : Vec Ideal S1x128x128 .bf16, k0_pay26 A B (ix2 R l)
      = if h : R.val < 128 then A (ix3 0 ⟨R.val, h⟩ l) else B (ix3 0 ⟨R.val - 128, by omega⟩ l) := fun A B => by
    pointwise [k0_pay26]
  rw [e]
  by_cases h : R.val < 128
  · rw [dif_pos h]
    refine (ld_rows 4096 512 128 128 x offa ha (128 * k.val) c0 ea ⟨R.val, h⟩ l (by show 128 * k.val + R.val < 4096; omega) (by omega)).trans ?_
    rw [hx, hn, if_pos h]
    show ((Q (128 * k.val + R.val) _ * _ : ℝ) : EReal) = _
    rw [Nat.mod_eq_of_lt h]
  · rw [dif_neg h]
    refine (ld_rows 4096 512 128 128 x offb hb (128 * k.val) c1 eb ⟨R.val - 128, by omega⟩ l (by show 128 * k.val + (R.val - 128) < 4096; omega) (by omega)).trans ?_
    rw [hx, hn, if_neg h]
    show ((Q (128 * k.val + (R.val - 128)) _ * _ : ℝ) : EReal) = _
    rw [show R.val % 128 = R.val - 128 by omega]

/-- The sink of a row: the first head's in the upper 128 rows, the second's in the lower. -/
theorem sink_apply (x1 : S8.Idx → EReal) (T : ℕ → ℝ) (hx : ∀ h : Fin 8, x1 (ix1 h) = (T h.val : EReal)) (a b : ℕ) (ha' : a < 8) (hb' : b < 8)
    (ha : ∀ i, (![a] : Fin 1 → ℕ) i + S1.size i ≤ S8.size i) (hb : ∀ i, (![b] : Fin 1 → ℕ) i + S1.size i ≤ S8.size i) (R : Fin 256) :
    sinkCol (F := Ideal) (sinkAt x1 a ha) (sinkAt x1 b hb) (ix2 R 0)
      = ((T (if R.val < 128 then a else b) * (Real.log 2)⁻¹ : ℝ) : EReal) := by
  have hs : ∀ (n : ℕ) (hn : n < 8) (h : ∀ i, (![n] : Fin 1 → ℕ) i + S1.size i ≤ S8.size i), sinkAt (F := Ideal) x1 n h = (T n : EReal) := fun n hn h => by
    refine Eq.trans (congrArg x1 (?_ : _ = ix1 ⟨n, hn⟩)) (hx ⟨n, hn⟩)
    refine funext fun i => Fin.ext ?_
    fin_cases i
    rfl
  have e : ∀ u v : EReal, sinkCol (F := Ideal) u v (ix2 R 0)
      = Scalar.select (k0_pay8 (ix2 R 0)) u v * Named.named (F := Ideal) κ "log2e" (φ := .f32) 0x3FB8AA3B#32 := fun u v => by
    pointwise [sinkCol, k0_pay18]
  have hw : ∀ R : Fin 256, k0_pay8 (ix2 R 0) = if R.val < 128 then 1#1 else 0#1 := by
    intro R
    pointwise [k0_pay8]
    revert R
    decide +kernel
  rw [e, hs a ha', hs b hb', log2e_inv, hw R]
  split
  · exact (EReal.coe_mul _ _).symm
  · exact (EReal.coe_mul _ _).symm

/-- What the blocks of one batch entry hold: the sinks, the scaled queries, and the keys and values by position, head and feature. -/
structure Blocks (x1 : S8.Idx → EReal) (x2 : S1x4096x512.Idx → EReal) (x3 x4 : S1x4096x256.Idx → EReal) (x5 x6 : S1x256x256.Idx → EReal)
    (Q : ℕ → ℕ → ℝ) (K KC : ℕ → ℕ → ℕ → ℝ) (V VC : ℕ → ℕ → ℕ → EReal) (T : ℕ → ℝ) : Prop where
  sink : ∀ h : Fin 8, x1 (ix1 h) = (T h.val : EReal)
  q : ∀ (i : Fin 4096) (c : Fin 512), x2 (ix3 0 i c) = ((Q i.val c.val * (1 / 8 * (Real.log 2)⁻¹) : ℝ) : EReal)
  k : ∀ (i : Fin 4096) (c : Fin 256), x3 (ix3 0 i c) = (K i.val (c.val / 128) (c.val % 64) : EReal)
  v : ∀ (i : Fin 4096) (c : Fin 256), x4 (ix3 0 i c) = V i.val (c.val / 128) (c.val % 64)
  kx : ∀ (i : Fin 256) (c : Fin 256), x5 (ix3 0 i c) = (KC i.val (c.val / 128) (c.val % 64) : EReal)
  vx : ∀ (i : Fin 256) (c : Fin 256), x6 (ix3 0 i c) = VC i.val (c.val / 128) (c.val % 64)

/-- Windowed attention at query `i` and feature `c`: head `c / 64`, whose keys are those of key head `c / 256`. -/
def headOut (Q : ℕ → ℕ → ℝ) (K KC : ℕ → ℕ → ℕ → ℝ) (V VC : ℕ → ℕ → ℕ → EReal) (T : ℕ → ℝ) (i c : ℕ) : EReal :=
  attend i (fun j => 1 / 8 * ∑ l : Fin 64, Q i (64 * (c / 64) + l.val) * K j (c / 256) l.val)
    (fun a => 1 / 8 * ∑ l : Fin 64, Q i (64 * (c / 64) + l.val) * KC a.val (c / 256) l.val)
    (T (c / 64)) (fun j => V j (c / 256) (c % 64)) (fun a => VC a.val (c / 256) (c % 64))

/-- A pair's head and lane, as the feature of the eight heads side by side. -/
theorem head_of_pair (Q : ℕ → ℕ → ℝ) (K KC : ℕ → ℕ → ℕ → ℝ) (V VC : ℕ → ℕ → ℕ → EReal) (T : ℕ → ℝ) (i g h d c : ℕ) (hh : h < 2) (hd : d < 128)
    (hc : c = 256 * g + 128 * h + d) :
    attend i (fun j => 1 / 8 * ∑ l : Fin 64, Q i (256 * g + 128 * h + 64 * (d / 64) + l.val) * K j g l.val)
      (fun a => 1 / 8 * ∑ l : Fin 64, Q i (256 * g + 128 * h + 64 * (d / 64) + l.val) * KC a.val g l.val)
      (T (4 * g + 2 * h + d / 64)) (fun j => V j g (d % 64)) (fun a => VC a.val g (d % 64)) = headOut Q K KC V VC T i c := by
  have e1 : c / 256 = g := by omega
  have e2 : 64 * (c / 64) = 256 * g + 128 * h + 64 * (d / 64) := by omega
  have e3 : c / 64 = 4 * g + 2 * h + d / 64 := by omega
  have e4 : c % 64 = d % 64 := by omega
  unfold headOut
  rw [e1, e2, e3, e4]

theorem upper_apply (p : FVec Ideal S256x128 .f32) (a b : Fin 128) :
    shapeCast S128x128 (extractStridedSlice S128x128 ![0, 0] p slices_S256x128_o0_0_S128x128) shapeCasts_S128x128_S128x128 (ix2 a b)
      = p (ix2 ⟨a.val, by omega⟩ b) := by
  pointwise []

theorem lower_apply (p : FVec Ideal S256x128 .f32) (a b : Fin 128) :
    shapeCast S128x128 (extractStridedSlice S128x128 ![128, 0] p slices_S256x128_o128_0_S128x128) shapeCasts_S128x128_S128x128 (ix2 a b)
      = p (ix2 ⟨128 + a.val, by omega⟩ b) := by
  pointwise []

theorem idx_of (x : S128x128.Idx) (a b : Fin 128) (h0 : a.val = (x 0).val) (h1 : b.val = (x 1).val) : x = ix2 a b := by
  refine funext fun i => Fin.ext ?_
  fin_cases i
  · exact h0.symm
  · exact h1.symm

section Value

variable {x1 : S8.Idx → EReal} {x2 : S1x4096x512.Idx → EReal} {x3 x4 : S1x4096x256.Idx → EReal} {x5 x6 : S1x256x256.Idx → EReal}
  {Q : ℕ → ℕ → ℝ} {K KC : ℕ → ℕ → ℕ → ℝ} {V VC : ℕ → ℕ → ℕ → EReal} {T : ℕ → ℝ} (B : Blocks x1 x2 x3 x4 x5 x6 Q K KC V VC T)
include B

/-- The four heads of key head 0, at one row and lane. -/
theorem pair0_apply (k : Fin k0_t1_loop.trips) (R : Fin 256) (d : Fin 128) :
    pair0 (F := Ideal) x1 x2 x3 x4 x5 x6 k (ix2 R d)
      = attend (128 * k.val + R.val % 128)
          (fun j => 1 / 8 * ∑ l : Fin 64, Q (128 * k.val + R.val % 128) (0 + 128 * (R.val / 128) + 64 * (d.val / 64) + l.val) * K j 0 l.val)
          (fun a => 1 / 8 * ∑ l : Fin 64, Q (128 * k.val + R.val % 128) (0 + 128 * (R.val / 128) + 64 * (d.val / 64) + l.val) * KC a.val 0 l.val)
          (T (0 + 2 * (R.val / 128) + d.val / 64)) (fun j => V j 0 (d.val % 64)) (fun a => VC a.val 0 (d.val % 64)) := by
  have hk : k.val < 32 := k.isLt
  have hR := R.isLt
  refine pair_attend k _ _ _ _ _ R d
    (fun e l => Q (128 * k.val + R.val % 128) (0 + 128 * (R.val / 128) + 64 * e + l.val)) (fun j l => K j 0 l) (fun j l => KC j 0 l) (fun j l => V j 0 l) (fun j l => VC j 0 l)
    (fun e => T (0 + 2 * (R.val / 128) + e)) ?_ ?_ ?_ ?_ ?_
  · intro e he l
    refine q_rows k x2 Q B.q 0 128 _ _ _ _ (k0_off4_eq k) (k0_off5_eq k) R ⟨64 * e + l.val, by omega⟩ _ (by omega) (by omega) ?_
    show _ = _ + (64 * e + l.val)
    split <;> omega
  · exact gathered0 k x3 x5 (fun i g l => (K i g l : EReal)) (fun i g l => (KC i g l : EReal)) B.k B.kx
  · exact gathered0 k x4 x6 V VC B.v B.vx
  · refine (sink_apply x1 T B.sink 0 2 (by decide) (by decide) _ _ R).trans ?_
    refine congrArg (fun n => ((T n * (Real.log 2)⁻¹ : ℝ) : EReal)) ?_
    split <;> omega
  · refine (sink_apply x1 T B.sink 1 3 (by decide) (by decide) _ _ R).trans ?_
    refine congrArg (fun n => ((T n * (Real.log 2)⁻¹ : ℝ) : EReal)) ?_
    split <;> omega

/-- The four heads of key head 1, at one row and lane. -/
theorem pair1_apply (k : Fin k0_t1_loop.trips) (R : Fin 256) (d : Fin 128) :
    pair1 (F := Ideal) x1 x2 x3 x4 x5 x6 k (ix2 R d)
      = attend (128 * k.val + R.val % 128)
          (fun j => 1 / 8 * ∑ l : Fin 64, Q (128 * k.val + R.val % 128) (256 + 128 * (R.val / 128) + 64 * (d.val / 64) + l.val) * K j 1 l.val)
          (fun a => 1 / 8 * ∑ l : Fin 64, Q (128 * k.val + R.val % 128) (256 + 128 * (R.val / 128) + 64 * (d.val / 64) + l.val) * KC a.val 1 l.val)
          (T (4 + 2 * (R.val / 128) + d.val / 64)) (fun j => V j 1 (d.val % 64)) (fun a => VC a.val 1 (d.val % 64)) := by
  have hk : k.val < 32 := k.isLt
  have hR := R.isLt
  refine pair_attend k _ _ _ _ _ R d
    (fun e l => Q (128 * k.val + R.val % 128) (256 + 128 * (R.val / 128) + 64 * e + l.val)) (fun j l => K j 1 l) (fun j l => KC j 1 l) (fun j l => V j 1 l) (fun j l => VC j 1 l)
    (fun e => T (4 + 2 * (R.val / 128) + e)) ?_ ?_ ?_ ?_ ?_
  · intro e he l
    refine q_rows k x2 Q B.q 256 384 _ _ _ _ (k0_off9_eq k) (k0_off10_eq k) R ⟨64 * e + l.val, by omega⟩ _ (by omega) (by omega) ?_
    show _ = _ + (64 * e + l.val)
    split <;> omega
  · exact gathered1 k x3 x5 (fun i g l => (K i g l : EReal)) (fun i g l => (KC i g l : EReal)) B.k B.kx
  · exact gathered1 k x4 x6 V VC B.v B.vx
  · refine (sink_apply x1 T B.sink 4 6 (by decide) (by decide) _ _ R).trans ?_
    refine congrArg (fun n => ((T n * (Real.log 2)⁻¹ : ℝ) : EReal)) ?_
    split <;> omega
  · refine (sink_apply x1 T B.sink 5 7 (by decide) (by decide) _ _ R).trans ?_
    refine congrArg (fun n => ((T n * (Real.log 2)⁻¹ : ℝ) : EReal)) ?_
    split <;> omega

/-- The attention of row block `k` at row `r` and feature `c`. -/
theorem acc_apply (k : Fin k0_t1_loop.trips) (r : Fin 128) (c : Fin 512) :
    acc (F := Ideal) x1 x2 x3 x4 x5 x6 k (ix2 r c) = headOut Q K KC V VC T (128 * k.val + r.val) c.val := by
  have hr := r.isLt
  have hc := c.isLt
  refine (ld_all _ r c).trans ?_
  unfold accPieces
  canon_tiles x h
  · have hx1 : (x 1).val < 128 := (x 1).isLt
    have hr' : r.val = (x 0).val := h0
    have hc' : c.val = 384 + (x 1).val := h1
    rw [idx_of x r ⟨c.val - 384, by omega⟩ hr' (by show c.val - 384 = (x 1).val; omega), lower_apply, pair1_apply B]
    have hR : (128 + r.val) % 128 = r.val := by omega
    have hh : (128 + r.val) / 128 = 1 := by omega
    show attend (128 * k.val + (128 + r.val) % 128) (fun j => 1 / 8 * ∑ l : Fin 64, Q (128 * k.val + (128 + r.val) % 128) (256 + 128 * ((128 + r.val) / 128) + 64 * ((c.val - 384) / 64) + l.val) * K j 1 l.val)
      (fun a => 1 / 8 * ∑ l : Fin 64, Q (128 * k.val + (128 + r.val) % 128) (256 + 128 * ((128 + r.val) / 128) + 64 * ((c.val - 384) / 64) + l.val) * KC a.val 1 l.val)
      (T (4 + 2 * ((128 + r.val) / 128) + (c.val - 384) / 64)) (fun j => V j 1 ((c.val - 384) % 64)) (fun a => VC a.val 1 ((c.val - 384) % 64)) = _
    rw [hR, hh]
    exact head_of_pair Q K KC V VC T _ 1 1 (c.val - 384) c.val (by decide) (by omega) (by omega)
  · have hx1 : (x 1).val < 128 := (x 1).isLt
    have hr' : r.val = (x 0).val := h0
    have hc' : c.val = 256 + (x 1).val := h1
    rw [idx_of x r ⟨c.val - 256, by omega⟩ hr' (by show c.val - 256 = (x 1).val; omega), upper_apply, pair1_apply B]
    have hR : (r.val) % 128 = r.val := by omega
    have hh : (r.val) / 128 = 0 := by omega
    show attend (128 * k.val + (r.val) % 128) (fun j => 1 / 8 * ∑ l : Fin 64, Q (128 * k.val + (r.val) % 128) (256 + 128 * ((r.val) / 128) + 64 * ((c.val - 256) / 64) + l.val) * K j 1 l.val)
      (fun a => 1 / 8 * ∑ l : Fin 64, Q (128 * k.val + (r.val) % 128) (256 + 128 * ((r.val) / 128) + 64 * ((c.val - 256) / 64) + l.val) * KC a.val 1 l.val)
      (T (4 + 2 * ((r.val) / 128) + (c.val - 256) / 64)) (fun j => V j 1 ((c.val - 256) % 64)) (fun a => VC a.val 1 ((c.val - 256) % 64)) = _
    rw [hR, hh]
    exact head_of_pair Q K KC V VC T _ 1 0 (c.val - 256) c.val (by decide) (by omega) (by omega)
  · have hx1 : (x 1).val < 128 := (x 1).isLt
    have hr' : r.val = (x 0).val := h0
    have hc' : c.val = 128 + (x 1).val := h1
    rw [idx_of x r ⟨c.val - 128, by omega⟩ hr' (by show c.val - 128 = (x 1).val; omega), lower_apply, pair0_apply B]
    have hR : (128 + r.val) % 128 = r.val := by omega
    have hh : (128 + r.val) / 128 = 1 := by omega
    show attend (128 * k.val + (128 + r.val) % 128) (fun j => 1 / 8 * ∑ l : Fin 64, Q (128 * k.val + (128 + r.val) % 128) (0 + 128 * ((128 + r.val) / 128) + 64 * ((c.val - 128) / 64) + l.val) * K j 0 l.val)
      (fun a => 1 / 8 * ∑ l : Fin 64, Q (128 * k.val + (128 + r.val) % 128) (0 + 128 * ((128 + r.val) / 128) + 64 * ((c.val - 128) / 64) + l.val) * KC a.val 0 l.val)
      (T (0 + 2 * ((128 + r.val) / 128) + (c.val - 128) / 64)) (fun j => V j 0 ((c.val - 128) % 64)) (fun a => VC a.val 0 ((c.val - 128) % 64)) = _
    rw [hR, hh]
    exact head_of_pair Q K KC V VC T _ 0 1 (c.val - 128) c.val (by decide) (by omega) (by omega)
  · have hx1 : (x 1).val < 128 := (x 1).isLt
    have hr' : r.val = (x 0).val := h0
    have hc' : c.val = (x 1).val := h1
    rw [idx_of x r ⟨c.val - 0, by omega⟩ hr' (by show c.val - 0 = (x 1).val; omega), upper_apply, pair0_apply B]
    have hR : (r.val) % 128 = r.val := by omega
    have hh : (r.val) / 128 = 0 := by omega
    show attend (128 * k.val + (r.val) % 128) (fun j => 1 / 8 * ∑ l : Fin 64, Q (128 * k.val + (r.val) % 128) (0 + 128 * ((r.val) / 128) + 64 * ((c.val - 0) / 64) + l.val) * K j 0 l.val)
      (fun a => 1 / 8 * ∑ l : Fin 64, Q (128 * k.val + (r.val) % 128) (0 + 128 * ((r.val) / 128) + 64 * ((c.val - 0) / 64) + l.val) * KC a.val 0 l.val)
      (T (0 + 2 * ((r.val) / 128) + (c.val - 0) / 64)) (fun j => V j 0 ((c.val - 0) % 64)) (fun a => VC a.val 0 ((c.val - 0) % 64)) = _
    rw [hR, hh]
    exact head_of_pair Q K KC V VC T _ 0 0 (c.val - 0) c.val (by decide) (by omega) (by omega)
end Value

end Cert.Proof.Attn

end
-- ==== Proof.RefValue.lean ====
/-
  The reference's value at an index, over the extended reals: windowed attention of each head, then each row normalised.
-/
module

public import proofs.«01_k».proof.Proof.Gen.ReferenceIdeal.Run
public import proofs.«01_k».proof.Proof.Softmax
public import Idealize.ShloMosaic.Lib.Pointwise
@[expose] public section

set_option maxRecDepth 16384

noncomputable section

namespace Cert.Proof.Reference

open Cert.ReferenceIdeal Cert.ReferenceIdeal.Gen Idealize.ShloMosaic Idealize.ShloMosaic.TcCoe Idealize.SL.Sem
open Cert.Proof.Softmax

/-- The scaled scores of the latent keys, those outside the window masked; of the context keys; and the sinks. -/
def logits (q : FVec Ideal S8x4096x8x64 .f32) (k : FVec Ideal S8x4096x2x64 .f32) (kc : FVec Ideal S8x256x2x64 .f32) (sink : FVec Ideal S8 .f32) :
    FVec Ideal S8x2x4x4096x4353 .f32 :=
  (concatenate S8x2x4x4096x4353 4 [⟨S8x2x4x4096x4096, ((select (broadcastInDim S8x2x4x4096x4096 ![3, 4] bcast_S4096x4096_S8x2x4x4096x4096_3_4 (cmpi .sle (absi (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0))))) (broadcastInDim S4096x4096 ![] bcast_S_S4096x4096 (constantI S_ 32 128#32)))) (mulf (transpose S8x2x4x4096x4096 [0, 1, 4, 3, 2] (Host.dotGeneral dot_S8x4096x2x64_S8x4096x2x4x64_S8x2x4096x4096x4_3_4_1_13_02_02 none k (shapeCast _ q shapeCasts_S8x4096x8x64_S8x4096x2x4x64)) transposes_S8x2x4096x4096x4_S8x2x4x4096x4096_0_1_4_3_2) (broadcastInDim S8x2x4x4096x4096 ![] bcast_S_S8x2x4x4096x4096 (constant S_ .f32 0x3E000000#32))) (broadcastInDim S8x2x4x4096x4096 ![] bcast_S_S8x2x4x4096x4096 (id (constant S_ .f32 0xFF800000#32)))) : FVec Ideal S8x2x4x4096x4096 .f32)⟩, ⟨S8x2x4x4096x256, ((mulf (transpose S8x2x4x4096x256 [0, 1, 4, 3, 2] (Host.dotGeneral dot_S8x256x2x64_S8x4096x2x4x64_S8x2x256x4096x4_3_4_1_13_02_02 none kc (shapeCast _ q shapeCasts_S8x4096x8x64_S8x4096x2x4x64)) transposes_S8x2x256x4096x4_S8x2x4x4096x256_0_1_4_3_2) (broadcastInDim S8x2x4x4096x256 ![] bcast_S_S8x2x4x4096x256 (constant S_ .f32 0x3E000000#32))) : FVec Ideal S8x2x4x4096x256 .f32)⟩, ⟨S8x2x4x4096x1, ((broadcastInDim S8x2x4x4096x1 ![0, 1, 2, 3, 4] bcast_S1x2x4x1x1_S8x2x4x4096x1_0_1_2_3_4 (shapeCast _ sink shapeCasts_S8_S1x2x4x1x1)) : FVec Ideal S8x2x4x4096x1 .f32)⟩] concatenates_S8x2x4x4096x4096_S8x2x4x4096x256_S8x2x4x4096x1_S8x2x4x4096x4353_d4)

/-- The largest logit of each row, as reduced. -/
def topOf (l : FVec Ideal S8x2x4x4096x4353 .f32) : FVec Ideal S8x2x4x4096 .f32 :=
  Host.reduce FloatOps.maximumf l (constant S_ .f32 0xFF800000#32) reducesTo_S8x2x4x4096x4353_S8x2x4x4096_d4 h_S_

/-- The largest logit of each row. -/
def rowMax (l : FVec Ideal S8x2x4x4096x4353 .f32) : FVec Ideal S8x2x4x4096 .f32 :=
  maximumf (broadcastInDim S8x2x4x4096 ![] bcast_S_S8x2x4x4096 (constant S_ .f32 0xFF800000#32)) (topOf l)

/-- One number per row, over the row's keys. -/
def overKeys (x : FVec Ideal S8x2x4x4096 .f32) : FVec Ideal S8x2x4x4096x4353 .f32 :=
  broadcastInDim S8x2x4x4096x4353 ![0, 1, 2, 3, 4] bcast_S8x2x4x4096x1_S8x2x4x4096x4353_0_1_2_3_4 (broadcastInDim S8x2x4x4096x1 ![0, 1, 2, 3] bcast_S8x2x4x4096_S8x2x4x4096x1_0_1_2_3 x)

/-- The exponentials of the logits below their row's largest. -/
def expo (l : FVec Ideal S8x2x4x4096x4353 .f32) : FVec Ideal S8x2x4x4096x4353 .f32 := Host.exp (subf l (overKeys (rowMax l)))

/-- The sum of each row. -/
def rowSum (e : FVec Ideal S8x2x4x4096x4353 .f32) : FVec Ideal S8x2x4x4096 .f32 :=
  Host.reduceAdd e (constant S_ .f32 0x00000000#32) reducesTo_S8x2x4x4096x4353_S8x2x4x4096_d4 h_S_

/-- The softmax over the last axis. -/
def shares (l : FVec Ideal S8x2x4x4096x4353 .f32) : FVec Ideal S8x2x4x4096x4353 .f32 := Host.divf (expo l) (overKeys (rowSum (expo l)))

/-- The values weighted by the shares, all heads side by side. -/
def mixed (v : FVec Ideal S8x4096x2x64 .f32) (vc : FVec Ideal S8x256x2x64 .f32) (p : FVec Ideal S8x2x4x4096x4353 .f32) : FVec Ideal S8x4096x512 .f32 :=
  shapeCast S8x4096x512 (addf (transpose S8x4096x2x4x64 [0, 4, 1, 3, 2] (Host.dotGeneral dot_S8x4096x2x64_S8x2x4x4096x4096_S8x2x64x4x4096_1_4_3_23_02_01 none v (extractStridedSlice S8x2x4x4096x4096 ![0, 0, 0, 0, 0] p slices_S8x2x4x4096x4353_S8x2x4x4096x4096_0_0_0_0_0)) transposes_S8x2x64x4x4096_S8x4096x2x4x64_0_4_1_3_2) (transpose S8x4096x2x4x64 [0, 4, 1, 3, 2] (Host.dotGeneral dot_S8x256x2x64_S8x2x4x4096x256_S8x2x64x4x4096_1_4_3_23_02_01 none vc (extractStridedSlice S8x2x4x4096x256 ![0, 0, 0, 0, 4096] p slices_S8x2x4x4096x4353_S8x2x4x4096x256_0_0_0_0_4096)) transposes_S8x2x64x4x4096_S8x4096x2x4x64_0_4_1_3_2)) shapeCasts_S8x4096x2x4x64_S8x4096x512

/-- The normalised rows. -/
def normed (a : FVec Ideal S8x4096x512 .f32) (gain : FVec Ideal S512 .f32) : FVec Ideal S8x4096x512 .bf16 :=
  truncf .bf16 (mulf (mulf a (broadcastInDim S8x4096x512 ![0, 1, 2] bcast_S8x4096x1_S8x4096x512_0_1_2 (Host.rsqrt (addf (Host.divf (broadcastInDim S8x4096x1 ![0, 1] bcast_S8x4096_S8x4096x1_0_1 (Host.reduceAdd (mulf a a) (constant S_ .f32 0x00000000#32) reducesTo_S8x4096x512_S8x4096_d2 h_S_)) (broadcastInDim S8x4096x1 ![] bcast_S_S8x4096x1 (constant S_ .f32 0x44000000#32))) (broadcastInDim S8x4096x1 ![] bcast_S_S8x4096x1 (constant S_ .f32 0x358637BD#32)))))) (broadcastInDim S8x4096x512 ![0, 1, 2] bcast_S1x1x512_S8x4096x512_0_1_2 (broadcastInDim S1x1x512 ![2] bcast_S512_S1x1x512_2 gain))) bitsLt_bf16_f32

theorem topOf_apply (l) (b : Fin 8) (h : Fin 2) (g : Fin 4) (i : Fin 4096) :
    topOf l (ix4 b h g i) = Finset.fold max (Ideal.ofBits .f32 0xFF800000#32) (fun x => l (ix5 b h g i x)) Finset.univ := by
  unfold topOf
  pointwise []
theorem maxBelow_apply (y : FVec Ideal S8x2x4x4096 .f32) (b : Fin 8) (h : Fin 2) (g : Fin 4) (i : Fin 4096) :
    maximumf (broadcastInDim S8x2x4x4096 ![] bcast_S_S8x2x4x4096 (constant S_ .f32 0xFF800000#32)) y (ix4 b h g i) = max (Ideal.ofBits .f32 0xFF800000#32) (y (ix4 b h g i)) := by
  pointwise []

theorem rowMax_apply (l) (b : Fin 8) (h : Fin 2) (g : Fin 4) (i : Fin 4096) :
    rowMax l (ix4 b h g i) = max (Ideal.ofBits .f32 0xFF800000#32) (topOf l (ix4 b h g i)) :=
  maxBelow_apply (topOf l) b h g i

theorem rowSum_apply (l) (b : Fin 8) (h : Fin 2) (g : Fin 4) (i : Fin 4096) :
    rowSum l (ix4 b h g i) = ∑ x, l (ix5 b h g i x) := by
  pointwise [rowSum]

theorem overKeys_apply (x) (b : Fin 8) (h : Fin 2) (g : Fin 4) (i : Fin 4096) (j : Fin 4353) :
    overKeys x (ix5 b h g i j) = x (ix4 b h g i) := by
  pointwise [overKeys]

theorem expo_apply (l) (b : Fin 8) (h : Fin 2) (g : Fin 4) (i : Fin 4096) (j : Fin 4353) :
    expo l (ix5 b h g i j) = Ideal.exp (l (ix5 b h g i j) - rowMax l (ix4 b h g i)) := by
  rw [← overKeys_apply (rowMax l) b h g i j]
  rfl

theorem shares_apply (l) (b : Fin 8) (h : Fin 2) (g : Fin 4) (i : Fin 4096) (j : Fin 4353) :
    shares l (ix5 b h g i j) = Ideal.div (expo l (ix5 b h g i j)) (∑ x, expo l (ix5 b h g i x)) := by
  rw [← rowSum_apply (expo l), ← overKeys_apply (rowSum (expo l)) b h g i j]
  rfl

theorem mixed_apply (v vc p) (b : Fin 8) (i : Fin 4096) (c : Fin 512) : mixed v vc p (ix3 b i c)
    = ∑ x : Fin 4096, v (ix4 b x ⟨c.val / 256, by omega⟩ ⟨c.val % 64, by omega⟩) * p (ix5 b ⟨c.val / 256, by omega⟩ ⟨c.val / 64 % 4, by omega⟩ i ⟨x.val, by omega⟩)
      + ∑ x : Fin 256, vc (ix4 b x ⟨c.val / 256, by omega⟩ ⟨c.val % 64, by omega⟩) * p (ix5 b ⟨c.val / 256, by omega⟩ ⟨c.val / 64 % 4, by omega⟩ i ⟨4096 + x.val, by omega⟩) := by
  pointwise [mixed]

theorem normed_apply (a gain) (b : Fin 8) (i : Fin 4096) (c : Fin 512) : normed a gain (ix3 b i c)
    = a (ix3 b i c) * Ideal.rsqrt (Ideal.div (∑ x, a (ix3 b i x) * a (ix3 b i x)) (Ideal.ofBits .f32 0x44000000#32) + Ideal.ofBits .f32 0x358637BD#32) * gain (ix1 c) := by
  pointwise [normed]

theorem logits_apply (q k kc sink) (b : Fin 8) (h : Fin 2) (g : Fin 4) (i : Fin 4096) (j : Fin 4353) : logits q k kc sink (ix5 b h g i j)
    = if h1 : j.val < 4096 then
        Scalar.select (IntOp.cmpi .sle (IntOp.absi (IntOp.subi (BitVec.ofNat 32 i.val) (BitVec.ofNat 32 j.val))) 128#32)
          ((∑ x, k (ix4 b ⟨j.val, h1⟩ h x) * q (ix4 b i ⟨h.val * 4 + g.val, by omega⟩ x)) * Ideal.ofBits .f32 0x3E000000#32)
          (id (constant (F := Ideal) S_ .f32 0xFF800000#32) ix0)
      else if h2 : j.val - 4096 < 256 then
        (∑ x, kc (ix4 b ⟨j.val - 4096, h2⟩ h x) * q (ix4 b i ⟨h.val * 4 + g.val, by omega⟩ x)) * Ideal.ofBits .f32 0x3E000000#32
      else sink (ix1 ⟨h.val * 4 + g.val, by omega⟩) := by
  pointwise [logits]

theorem neg_inf_bot : Ideal.ofBits .f32 0xFF800000#32 = ⊥ := by simp [Ideal.ofBits, Ideal.ieee]

theorem eighth : Ideal.ofBits .f32 0x3E000000#32 = ((1 / 8 : ℝ) : EReal) := by
  simp [Ideal.ofBits, Ideal.ieee]
  norm_num
  rw [← EReal.coe_mul]
  norm_num

theorem near_word : ∀ n : Fin 4096, IntOp.cmpi .sle (IntOp.absi (BitVec.ofNat 32 n.val)) 128#32 = 1#1 ↔ n.val ≤ 128 := by decide +kernel

theorem near_word' : ∀ n : Fin 4096, IntOp.cmpi .sle (IntOp.absi (IntOp.subi 0#32 (BitVec.ofNat 32 n.val))) 128#32 = 1#1 ↔ n.val ≤ 128 := by decide +kernel

/-- The reference's mask is the window. -/
theorem mask_iff (i j : ℕ) (hi : i < 4096) (hj : j < 4096) :
    IntOp.cmpi .sle (IntOp.absi (IntOp.subi (BitVec.ofNat 32 i) (BitVec.ofNat 32 j))) 128#32 = 1#1 ↔ inWindow i j := by
  unfold inWindow
  by_cases h : j ≤ i
  · have e : IntOp.subi (BitVec.ofNat 32 i) (BitVec.ofNat 32 j) = BitVec.ofNat 32 (i - j) := by
      show BitVec.ofNat 32 i - BitVec.ofNat 32 j = _
      apply BitVec.eq_of_toNat_eq
      simp only [BitVec.toNat_sub, BitVec.toNat_ofNat]
      omega
    rw [e]
    refine (near_word ⟨i - j, by omega⟩).trans ?_
    show i - j ≤ 128 ↔ _
    omega
  · have e : IntOp.subi (BitVec.ofNat 32 i) (BitVec.ofNat 32 j) = IntOp.subi 0#32 (BitVec.ofNat 32 (j - i)) := by
      show BitVec.ofNat 32 i - BitVec.ofNat 32 j = 0#32 - BitVec.ofNat 32 (j - i)
      apply BitVec.eq_of_toNat_eq
      simp only [BitVec.toNat_sub, BitVec.toNat_ofNat]
      omega
    rw [e]
    refine (near_word' ⟨j - i, by omega⟩).trans ?_
    show j - i ≤ 128 ↔ _
    omega

/-- What the arrays hold for one batch entry: real queries, keys and sinks, and any values. -/
structure Arrays (b : Fin 8) (q : FVec Ideal S8x4096x8x64 .f32) (k v : FVec Ideal S8x4096x2x64 .f32) (kc vc : FVec Ideal S8x256x2x64 .f32) (sink : FVec Ideal S8 .f32)
    (Q : ℕ → ℕ → ℝ) (K KC : ℕ → ℕ → ℕ → ℝ) (V VC : ℕ → ℕ → ℕ → EReal) (T : ℕ → ℝ) : Prop where
  q : ∀ (i : Fin 4096) (n : Fin 8) (l : Fin 64), q (ix4 b i n l) = (Q i.val (64 * n.val + l.val) : EReal)
  k : ∀ (i : Fin 4096) (n : Fin 2) (l : Fin 64), k (ix4 b i n l) = (K i.val n.val l.val : EReal)
  v : ∀ (i : Fin 4096) (n : Fin 2) (l : Fin 64), v (ix4 b i n l) = V i.val n.val l.val
  kc : ∀ (i : Fin 256) (n : Fin 2) (l : Fin 64), kc (ix4 b i n l) = (KC i.val n.val l.val : EReal)
  vc : ∀ (i : Fin 256) (n : Fin 2) (l : Fin 64), vc (ix4 b i n l) = VC i.val n.val l.val
  sink : ∀ n : Fin 8, sink (ix1 n) = (T n.val : EReal)

/-- The keys a query sees: the window's, the context's and the sink. -/
def visible (i : ℕ) (j : Fin 4353) : Prop := j.val < 4096 → inWindow i j.val

instance (i : ℕ) : DecidablePred (visible i) := fun j => by unfold visible; infer_instance

/-- The scores of one query of head `n`, as real numbers. -/
def score (Q : ℕ → ℕ → ℝ) (K KC : ℕ → ℕ → ℕ → ℝ) (T : ℕ → ℝ) (i h n : ℕ) (j : Fin 4353) : ℝ :=
  if j.val < 4096 then 1 / 8 * ∑ l : Fin 64, Q i (64 * n + l.val) * K j.val h l.val
  else if j.val - 4096 < 256 then 1 / 8 * ∑ l : Fin 64, Q i (64 * n + l.val) * KC (j.val - 4096) h l.val
  else T n

theorem score_ctx (Q : ℕ → ℕ → ℝ) (K KC : ℕ → ℕ → ℕ → ℝ) (T : ℕ → ℝ) (i h n : ℕ) (j : Fin 4353) (a : ℕ) (hj : j.val = 4096 + a) (ha : a < 256) :
    score Q K KC T i h n j = 1 / 8 * ∑ l : Fin 64, Q i (64 * n + l.val) * KC a h l.val := by
  unfold score
  rw [if_neg (by omega), if_pos (by omega), show j.val - 4096 = a by omega]

theorem score_sink (Q : ℕ → ℕ → ℝ) (K KC : ℕ → ℕ → ℕ → ℝ) (T : ℕ → ℝ) (i h n : ℕ) (j : Fin 4353) (hj : j.val = 4352) :
    score Q K KC T i h n j = T n := by
  unfold score
  rw [if_neg (by omega), if_neg (by omega)]

section Value

variable {b : Fin 8} {q : FVec Ideal S8x4096x8x64 .f32} {k v : FVec Ideal S8x4096x2x64 .f32} {kc vc : FVec Ideal S8x256x2x64 .f32} {sink : FVec Ideal S8 .f32}
  {Q : ℕ → ℕ → ℝ} {K KC : ℕ → ℕ → ℕ → ℝ} {V VC : ℕ → ℕ → ℕ → EReal} {T : ℕ → ℝ} (A : Arrays b q k v kc vc sink Q K KC V VC T)
include A

theorem dot_real (n : ℕ) (i : ℕ) (f : Fin 64 → ℝ) :
    (∑ l : Fin 64, (f l : EReal) * (Q i (64 * n + l.val) : EReal)) * ((1 / 8 : ℝ) : EReal) = ((1 / 8 * ∑ l : Fin 64, Q i (64 * n + l.val) * f l : ℝ) : EReal) := by
  simp only [← EReal.coe_mul]
  rw [← coe_sum, ← EReal.coe_mul]
  congr 1
  rw [mul_comm]
  refine congrArg _ (Finset.sum_congr rfl fun l _ => mul_comm _ _)

/-- The logits: the visible keys' scores. -/
theorem logits_real (h : Fin 2) (g : Fin 4) (i : Fin 4096) (j : Fin 4353) :
    logits q k kc sink (ix5 b h g i j)
      = if visible i.val j then (score Q K KC T i.val h.val (h.val * 4 + g.val) j : EReal) else ⊥ := by
  rw [logits_apply]
  unfold score
  by_cases h1 : j.val < 4096
  · rw [dif_pos h1, if_pos h1]
    have hm := mask_iff i.val j.val i.isLt h1
    by_cases hw : inWindow i.val j.val
    · rw [if_pos (show visible i.val j from fun _ => hw), hm.mpr hw, eighth]
      simp only [A.k, A.q]
      exact dot_real A _ _ (fun l => K j.val h.val l.val)
    · rw [if_neg (fun hv : visible i.val j => hw (hv h1))]
      refine Eq.trans (if_neg (fun h' => hw (hm.mp h'))) ?_
      exact neg_inf_bot
  · rw [dif_neg h1, if_neg h1, if_pos (show visible i.val j from fun h' => absurd h' h1)]
    by_cases h2 : j.val - 4096 < 256
    · rw [dif_pos h2, if_pos h2, eighth]
      simp only [A.kc, A.q]
      exact dot_real A _ _ (fun l => KC (j.val - 4096) h.val l.val)
    · rw [dif_neg h2, if_neg h2, A.sink]

/-- The sum of the weights is the window's, the context's and the sink's. -/
theorem weights_sum (h n i : ℕ) :
    ∑ j, wt (visible i j) (score Q K KC T i h n j)
      = total i (fun j => 1 / 8 * ∑ l : Fin 64, Q i (64 * n + l.val) * K j h l.val) (fun a => 1 / 8 * ∑ l : Fin 64, Q i (64 * n + l.val) * KC a.val h l.val) (T n) := by
  unfold total
  rw [show (∑ j, wt (visible i j) (score Q K KC T i h n j)) = ∑ j : Fin (4096 + (256 + 1)), wt (visible i j) (score Q K KC T i h n j) from rfl,
    Fin.sum_univ_add, Fin.sum_univ_add, Fin.sum_univ_one, add_assoc]
  refine congrArg₂ (· + ·) (Finset.sum_congr rfl fun j _ => ?_) (congrArg₂ (· + ·) (Finset.sum_congr rfl fun j _ => ?_) ?_)
  · have hj := j.isLt
    have e : score Q K KC T i h n (Fin.castAdd (256 + 1) j) = 1 / 8 * ∑ l : Fin 64, Q i (64 * n + l.val) * K j.val h l.val := if_pos hj
    rw [e]
    unfold wt
    by_cases hw : inWindow i j.val
    · exact (if_pos (show visible i (Fin.castAdd (256 + 1) j) from fun _ => hw)).trans (if_pos hw).symm
    · exact (if_neg (fun hv : visible i (Fin.castAdd (256 + 1) j) => hw (hv hj))).trans (if_neg hw).symm
  · have hj := j.isLt
    have hn : ¬ (4096 + j.val < 4096) := by omega
    have e : score Q K KC T i h n (Fin.natAdd 4096 (Fin.castAdd 1 j)) = 1 / 8 * ∑ l : Fin 64, Q i (64 * n + l.val) * KC j.val h l.val :=
      score_ctx Q K KC T i h n _ j.val rfl hj
    rw [e]
    exact if_pos (show visible i (Fin.natAdd 4096 (Fin.castAdd 1 j)) from fun h' => absurd h' hn)
  · have hn : ¬ (4352 < 4096) := by omega
    have e : score Q K KC T i h n (Fin.natAdd 4096 (Fin.natAdd 256 (0 : Fin 1))) = T n := score_sink Q K KC T i h n _ rfl
    rw [e]
    exact if_pos (show visible i (Fin.natAdd 4096 (Fin.natAdd 256 (0 : Fin 1))) from fun h' => absurd h' hn)

/-- The shares: each key's weight over the sum of the weights. -/
theorem shares_real (h : Fin 2) (g : Fin 4) (i : Fin 4096) (j : Fin 4353) :
    shares (logits q k kc sink) (ix5 b h g i j)
      = ((wt (visible i.val j) (score Q K KC T i.val h.val (h.val * 4 + g.val) j)
          / ∑ j, wt (visible i.val j) (score Q K KC T i.val h.val (h.val * 4 + g.val) j) : ℝ) : EReal) := by
  rw [shares_apply]
  simp only [expo_apply]
  rw [rowMax_apply, topOf_apply, neg_inf_bot, max_eq_right bot_le]
  exact softmax_exp (visible i.val) (score Q K KC T i.val h.val (h.val * 4 + g.val)) (fun j => logits q k kc sink (ix5 b h g i j)) (logits_real A h g i)
    ⟨4352, by decide⟩ (show visible i.val ⟨4352, by decide⟩ from fun h' => absurd h' (by decide)) j

/-- The attention of the reference at query `i` and feature `c`. -/
theorem mixed_real (i : Fin 4096) (c : Fin 512) :
    mixed v vc (shares (logits q k kc sink)) (ix3 b i c)
      = attend i.val (fun j => 1 / 8 * ∑ l : Fin 64, Q i.val (64 * (c.val / 64) + l.val) * K j (c.val / 256) l.val)
          (fun a => 1 / 8 * ∑ l : Fin 64, Q i.val (64 * (c.val / 64) + l.val) * KC a.val (c.val / 256) l.val)
          (T (c.val / 64)) (fun j => V j (c.val / 256) (c.val % 64)) (fun a => VC a.val (c.val / 256) (c.val % 64)) := by
  have hn : c.val / 256 * 4 + c.val / 64 % 4 = c.val / 64 := by omega
  rw [mixed_apply]
  simp only [shares_real A, A.v, A.vc, weights_sum A, hn]
  unfold attend
  refine congrArg₂ (· + ·) (Finset.sum_congr rfl fun j _ => ?_) (Finset.sum_congr rfl fun j _ => ?_)
  · rw [mul_comm]
    refine congrArg (fun x : ℝ => ((x / _ : ℝ) : EReal) * _) ?_
    have hj := j.isLt
    have e : score Q K KC T i.val (c.val / 256) (c.val / 64) ⟨j.val, by omega⟩
        = 1 / 8 * ∑ l : Fin 64, Q i.val (64 * (c.val / 64) + l.val) * K j.val (c.val / 256) l.val := if_pos hj
    rw [e]
    unfold wt
    by_cases hw : inWindow i.val j.val
    · exact (if_pos (show visible i.val ⟨j.val, by omega⟩ from fun _ => hw)).trans (if_pos hw).symm
    · exact (if_neg (fun hv : visible i.val ⟨j.val, by omega⟩ => hw (hv hj))).trans (if_neg hw).symm
  · rw [mul_comm]
    refine congrArg (fun x : ℝ => ((x / _ : ℝ) : EReal) * _) ?_
    have hj := j.isLt
    have hn : ¬ (4096 + j.val < 4096) := by omega
    have e : score Q K KC T i.val (c.val / 256) (c.val / 64) ⟨4096 + j.val, by omega⟩
        = 1 / 8 * ∑ l : Fin 64, Q i.val (64 * (c.val / 64) + l.val) * KC j.val (c.val / 256) l.val :=
      score_ctx Q K KC T i.val (c.val / 256) (c.val / 64) _ j.val rfl hj
    rw [e]
    exact if_pos (show visible i.val ⟨4096 + j.val, by omega⟩ from fun h' => absurd h' hn)

end Value

set_option maxHeartbeats 4000000 in
/-- The reference's result, in these stages. -/
theorem result_eq (m : (ℓ : Loc nD τ sig) → Buf (Elt Ideal) ℓ) (c : Dev nD) :
    Cert.ReferenceIdeal.Value.res_out0 m c = normed (mixed (m ((c.tc : Thread nD τ).loc main_arg2)) (m ((c.tc : Thread nD τ).loc main_arg4))
      (shares (logits (m ((c.tc : Thread nD τ).loc main_arg0)) (m ((c.tc : Thread nD τ).loc main_arg1)) (m ((c.tc : Thread nD τ).loc main_arg3)) (m ((c.tc : Thread nD τ).loc main_arg5)))))
      (m ((c.tc : Thread nD τ).loc main_arg6)) := by
  unfold Cert.ReferenceIdeal.Value.res_out0 Cert.ReferenceIdeal.Value.res_main_v55
  rfl

end Cert.Proof.Reference

end
-- ==== Proof.Finite.lean ====
/-
  What the precondition says of an array: every element of the queries, keys, context keys and sink is a real number.
-/
module

public import proofs.«01_k».proof.Defs
public import proofs.«01_k».proof.Proof.Gen.Pre_finite
public import Idealize.ShloMosaic.Lib.ReduceAll

@[expose] public section

noncomputable section

namespace Cert.Proof.Finite

open Idealize.ShloMosaic Cert.Pre_finite Cert.Pre_finite.Gen

/-- Two single bits whose `and` is set are both set. -/
theorem both {a b : S_.Idx → BitVec 1} (i : S_.Idx) (h : andi a b i = 1#1) : a i = 1#1 ∧ b i = 1#1 := by
  have h' : a i &&& b i = 1#1 := h
  generalize a i = p at h' ⊢
  generalize b i = q at h' ⊢
  revert p q
  decide

theorem elt {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : x i = ((x i).toReal : EReal) := by
  change FloatOps.cmpf .olt (FloatOps.hostAbsf (x i)) (Ideal.ofBits .f32 0x7F800000#32) = 1#1 at h
  have et : Ideal.ofBits .f32 0x7F800000#32 = ⊤ := by simp [Ideal.ofBits, Ideal.ieee]
  rw [et] at h
  have h' : max (x i) (-(x i)) < (⊤ : EReal) := by
    by_contra hn
    have : Ideal.cmp .olt (max (x i) (-(x i))) ⊤ = 0#1 := by simp [Ideal.cmp, hn]
    exact absurd (h.symm.trans this) (by decide)
  refine (EReal.coe_toReal ?_ ?_).symm
  · intro e
    rw [e] at h'
    simp at h'
  · intro e
    rw [e] at h'
    simp at h'

variable (q : FVec Ideal S8x4096x8x64 .f32) (k v : FVec Ideal S8x4096x2x64 .f32) (kc vc : FVec Ideal S8x256x2x64 .f32)
  (sink : FVec Ideal S8 .f32) (gain : FVec Ideal S512 .f32)

theorem finite (h : fn (F := Ideal) q k v kc vc sink gain = fun _ => 1#1) :
    (∀ i, q i = ((q i).toReal : EReal)) ∧ (∀ i, k i = ((k i).toReal : EReal)) ∧ (∀ i, kc i = ((kc i).toReal : EReal))
      ∧ (∀ i, sink i = ((sink i).toReal : EReal)) := by
  haveI : Subsingleton S_.Idx := ⟨fun a b => funext fun i => i.elim0⟩
  have e := congrFun h (fun i => i.elim0)
  unfold fn fn_part1 at e
  obtain ⟨e, e4⟩ := both _ e
  obtain ⟨e, e3⟩ := both _ e
  obtain ⟨e1, e2⟩ := both _ e
  exact ⟨fun i => elt q _ i (Host.reduce_andi_all _ _ _ _ _ e1 i), fun i => elt k _ i (Host.reduce_andi_all _ _ _ _ _ e2 i),
    fun i => elt kc _ i (Host.reduce_andi_all _ _ _ _ _ e3 i), fun i => elt sink _ i (Host.reduce_andi_all _ _ _ _ _ e4 i)⟩

end Cert.Proof.Finite

end
-- ==== Proof.AttnValue.lean ====
/-
  The windowed attention computes what the reference computes, over the extended reals, from finite queries, keys,
  context keys and sink.
-/
module

public import proofs.«01_k».proof.Proof.AttnEntry
public import proofs.«01_k».proof.Proof.AttnAcc
public import proofs.«01_k».proof.Proof.RefValue
public import proofs.«01_k».proof.Proof.Finite

@[expose] public section

set_option maxRecDepth 16384

noncomputable section

namespace Cert.Proof.Value

open Cert.KernelIdeal Cert.KernelIdeal.Gen Cert.Proof.Attn
open Idealize.ShloMosaic Idealize.ShloMosaic.TcCoe Idealize.SL.Sem Idealize.ShloMosaic.Tactic

variable (m : (ℓ : Loc nD τ sig) → Buf (Elt Ideal) ℓ) (c : Dev nD)

/-- The queries, keys, values and sink of batch `b`, by natural-number indices; those that are finite, as reals. -/
def rQ (b : Fin 8) (i n : ℕ) : ℝ := (argQ m c (ix4 b ⟨i % 4096, Nat.mod_lt _ (by norm_num)⟩ ⟨n / 64 % 8, Nat.mod_lt _ (by norm_num)⟩ ⟨n % 64, Nat.mod_lt _ (by norm_num)⟩)).toReal
def rK (b : Fin 8) (i n l : ℕ) : ℝ := (argK m c (ix4 b ⟨i % 4096, Nat.mod_lt _ (by norm_num)⟩ ⟨n % 2, Nat.mod_lt _ (by norm_num)⟩ ⟨l % 64, Nat.mod_lt _ (by norm_num)⟩)).toReal
def eV (b : Fin 8) (i n l : ℕ) : EReal := argV m c (ix4 b ⟨i % 4096, Nat.mod_lt _ (by norm_num)⟩ ⟨n % 2, Nat.mod_lt _ (by norm_num)⟩ ⟨l % 64, Nat.mod_lt _ (by norm_num)⟩)
def rKC (b : Fin 8) (i n l : ℕ) : ℝ := (argKC m c (ix4 b ⟨i % 256, Nat.mod_lt _ (by norm_num)⟩ ⟨n % 2, Nat.mod_lt _ (by norm_num)⟩ ⟨l % 64, Nat.mod_lt _ (by norm_num)⟩)).toReal
def eVC (b : Fin 8) (i n l : ℕ) : EReal := argVC m c (ix4 b ⟨i % 256, Nat.mod_lt _ (by norm_num)⟩ ⟨n % 2, Nat.mod_lt _ (by norm_num)⟩ ⟨l % 64, Nat.mod_lt _ (by norm_num)⟩)
def rT (n : ℕ) : ℝ := (argSink m c (ix1 ⟨n % 8, Nat.mod_lt _ (by norm_num)⟩)).toReal

/-- Equal coordinates give the same element. -/
theorem at4 {s0 s1 s2 s3 : ℕ} (x : (⟨4, ![s0, s1, s2, s3]⟩ : Shape).Idx → EReal) (b : Fin s0) {i i' : Fin s1} {n n' : Fin s2} {l l' : Fin s3}
    (hi : i.val = i'.val) (hn : n.val = n'.val) (hl : l.val = l'.val) : x (ix4 b i n l) = x (ix4 b i' n' l') := by
  obtain rfl := Fin.ext hi
  obtain rfl := Fin.ext hn
  obtain rfl := Fin.ext hl
  rfl

/-- The finiteness the precondition states, of the arrays as the kernel reads them. -/
structure AllReal : Prop where
  q : ∀ i, argQ m c i = ((argQ m c i).toReal : EReal)
  k : ∀ i, argK m c i = ((argK m c i).toReal : EReal)
  kc : ∀ i, argKC m c i = ((argKC m c i).toReal : EReal)
  sink : ∀ i, argSink m c i = ((argSink m c i).toReal : EReal)

variable {m c}

/-- The reference's arrays are those numbers. -/
theorem arrays (H : AllReal m c) (b : Fin 8) :
    Reference.Arrays b (argQ m c) (argK m c) (argV m c) (argKC m c) (argVC m c) (argSink m c)
      (rQ m c b) (rK m c b) (rKC m c b) (eV m c b) (eVC m c b) (rT m c) where
  q i n l := by
    unfold rQ
    rw [← H.q]
    exact at4 _ b (by show i.val = i.val % 4096; omega) (by show n.val = (64 * n.val + l.val) / 64 % 8; omega) (by show l.val = (64 * n.val + l.val) % 64; omega)
  k i n l := by
    unfold rK
    rw [← H.k]
    exact at4 _ b (by show i.val = i.val % 4096; omega) (by show n.val = n.val % 2; omega) (by show l.val = l.val % 64; omega)
  v i n l := at4 _ b (by show i.val = i.val % 4096; omega) (by show n.val = n.val % 2; omega) (by show l.val = l.val % 64; omega)
  kc i n l := by
    unfold rKC
    rw [← H.kc]
    exact at4 _ b (by show i.val = i.val % 256; omega) (by show n.val = n.val % 2; omega) (by show l.val = l.val % 64; omega)
  vc i n l := at4 _ b (by show i.val = i.val % 256; omega) (by show n.val = n.val % 2; omega) (by show l.val = l.val % 64; omega)
  sink n := by
    unfold rT
    rw [← H.sink]
    exact congrArg (fun j => argSink m c (ix1 j)) (Fin.ext (by show n.val = n.val % 8; omega))

/-- The kernel's blocks at batch `t` are the same numbers, the queries scaled and the keys and values written twice. -/
theorem blocks (H : AllReal m c) (t : Fin cfg0.N) :
    Blocks (iblk m c 0 t) (iblk m c 1 t) (iblk m c 2 t) (iblk m c 3 t) (iblk m c 4 t) (iblk m c 5 t)
      (rQ m c ⟨t.val, t.isLt⟩) (rK m c ⟨t.val, t.isLt⟩) (rKC m c ⟨t.val, t.isLt⟩) (eV m c ⟨t.val, t.isLt⟩) (eVC m c ⟨t.val, t.isLt⟩) (rT m c) where
  sink n := (sink_block m c t n).trans ((arrays H ⟨t.val, t.isLt⟩).sink n)
  q i n := by
    rw [q_block, q_entry, H.q, ← EReal.coe_mul]
    unfold rQ
    refine congrArg (fun x : EReal => ((x.toReal * (1 / 8 * (Real.log 2)⁻¹) : ℝ) : EReal)) ?_
    exact at4 _ _ (by show i.val = i.val % 4096; omega) (by show n.val / 64 = n.val / 64 % 8; omega) rfl
  k i n := (k_block m c t i n).trans ((k_entry m c _ i n).trans ((arrays H ⟨t.val, t.isLt⟩).k i ⟨n.val / 128, by omega⟩ ⟨n.val % 64, by omega⟩))
  v i n := (v_block m c t i n).trans ((v_entry m c _ i n).trans ((arrays H ⟨t.val, t.isLt⟩).v i ⟨n.val / 128, by omega⟩ ⟨n.val % 64, by omega⟩))
  kx i n := (kx_block m c t i n).trans ((kx_entry m c _ i n).trans ((arrays H ⟨t.val, t.isLt⟩).kc i ⟨n.val / 128, by omega⟩ ⟨n.val % 64, by omega⟩))
  vx i n := (vx_block m c t i n).trans ((vx_entry m c _ i n).trans ((arrays H ⟨t.val, t.isLt⟩).vc i ⟨n.val / 128, by omega⟩ ⟨n.val % 64, by omega⟩))

/-- The reference's result, as a function of the arguments. -/
def target : FVec Ideal S8x4096x512 .f32 :=
  Reference.normed (Reference.mixed (argV m c) (argVC m c) (Reference.shares (Reference.logits (argQ m c) (argK m c) (argKC m c) (argSink m c)))) (argGain m c)

/-- The normalisation of a row block's attention by the kernel, at an index. -/
theorem norm_apply (a : FVec Ideal S128x512 .f32) (g : FVec Ideal S1x512 .f32) (r : Fin 128) (n : Fin 512) :
    k0_pay4 (F := Ideal) a g (ix3 0 r n) = a (ix2 r n) * Ideal.rsqrt (Ideal.div (∑ x, a (ix2 r x) * a (ix2 r x)) (Ideal.ofBits .f32 0x44000000#32)
      + Ideal.ofBits .f32 0x358637BD#32) * g (ix2 0 n) := by
  pointwise [k0_pay4]

/-- A row block reads the gains whole. -/
theorem ld_gain (x : S1x512.Idx → EReal) (n : Fin 512) :
    (View.ld (Val := Elt Ideal) (e' := .f32) x (Rect.unit (s := S1x512) ![0, 0] S1x512.size inb_S1x512_S1x512_0_0)) (ix2 0 n) = x (ix2 0 n) := by
  refine congrArg x (funext fun i => Fin.ext ?_)
  fin_cases i
  · rfl
  · simp [ix2]

/-- One batch's block of the result is the reference's. -/
theorem block_eq (H : AllReal m c) (t : Fin cfg0.N) (i : Fin 4096) (n : Fin 512) :
    outBlk (F := Ideal) (iblk m c 0 t) (iblk m c 1 t) (iblk m c 2 t) (iblk m c 3 t) (iblk m c 4 t) (iblk m c 5 t) (iblk m c 6 t) (ix3 0 i n)
      = target (m := m) (c := c) (ix3 ⟨t.val, t.isLt⟩ i n) := by
  have row : ∀ x : Fin 512, acc (F := Ideal) (iblk m c 0 t) (iblk m c 1 t) (iblk m c 2 t) (iblk m c 3 t) (iblk m c 4 t) (iblk m c 5 t)
        ⟨i.val / 128, Nat.lt_of_lt_of_eq (by omega : i.val / 128 < 32) (by decide)⟩ (ix2 ⟨i.val % 128, by omega⟩ x)
      = Reference.mixed (argV m c) (argVC m c) (Reference.shares (Reference.logits (argQ m c) (argK m c) (argKC m c) (argSink m c))) (ix3 ⟨t.val, t.isLt⟩ i x) := by
    intro x
    rw [acc_apply (blocks H t), Reference.mixed_real (arrays H ⟨t.val, t.isLt⟩) i x]
    unfold headOut
    have e : 128 * (i.val / 128) + i.val % 128 = i.val := by omega
    simp only [e]
  have e : inBlk (ix3 0 i n : S1x4096x512.Idx) = ix3 0 ⟨i.val % 128, by omega⟩ n := by
    funext j
    fin_cases j <;> rfl
  unfold target
  rw [Reference.normed_apply]
  unfold outBlk rowsOut
  rw [e]
  refine (norm_apply _ _ _ _).trans ?_
  have g : (View.ld (Val := Elt Ideal) (e' := .f32) (iblk m c 6 t) (Rect.unit (s := S1x512) ![0, 0] S1x512.size inb_S1x512_S1x512_0_0)) (ix2 0 n) = argGain m c (ix1 n) :=
    (ld_gain _ n).trans ((gain_block m c t n).trans (gain_entry m c n))
  rw [g]
  simp only [← row]
  rfl

/-- The kernel's result is the reference's. -/
theorem out_eq (H : AllReal m c) : (dats m 0 c).arrAt 7 cfg0.N = target (m := m) (c := c) := by
  refine (dats m 0 c).arrAt_eq_of_covers 7 _ (by decide +kernel) fun t hf y => ?_
  blk_simp
  rw [after_7]
  have h0 : (y 0).val < 1 := (y 0).isLt
  have ey : y = ix3 0 (⟨(y 1).val, (y 1).isLt⟩ : Fin 4096) (⟨(y 2).val, (y 2).isLt⟩ : Fin 512) := by
    funext j
    refine Fin.ext ?_
    fin_cases j
    · show (y 0).val = 0
      omega
    · rfl
    · rfl
  refine Eq.trans ?_ (congrArg (target (m := m) (c := c)) (out_index t y).symm)
  rw [ey]
  exact block_eq H t _ _

/-- From finite queries, keys, context keys and sink, the kernel ends with the reference's result, and both keep their
    arguments. -/
theorem algebraic : Cert.algebraic_KernelIdeal_ReferenceIdeal_pre_finite := by
  intro m g m' g' hpre hargs
  have H : ∀ c : Dev nD, AllReal m c := fun c => by
    obtain ⟨h1, h2, h3, h4⟩ := Finite.finite _ _ _ _ _ _ _ (hpre c)
    exact ⟨h1, h2, h3, h4⟩
  refine ⟨fun c => target (m := m) (c := c), (θ_run Cert.KernelIdeal.defs _ _).mono
    (fun _ h c => ⟨((h.1 c).1).trans (out_eq (H c)), (h.1 c).2⟩) (Attn.run_post m g), ?_⟩
  refine (θ_run Cert.ReferenceIdeal.defs _ _).mono (fun _ h c => ⟨(h c).1.trans ?_, (h c).2⟩)
    (Cert.ReferenceIdeal.Value.run (F := Ideal) m' g')
  obtain ⟨h0, h1, h2, h3, h4, h5, h6⟩ := hargs c
  refine (Reference.result_eq m' c).trans ?_
  unfold target argQ argK argV argKC argVC argSink argGain
  have e0 : m' (c, Proc.tc.devRef Cert.ReferenceIdeal.main_arg0) = m (c, Proc.tc.devRef main_arg0) := h0
  have e1 : m' (c, Proc.tc.devRef Cert.ReferenceIdeal.main_arg1) = m (c, Proc.tc.devRef main_arg1) := h1
  have e2 : m' (c, Proc.tc.devRef Cert.ReferenceIdeal.main_arg2) = m (c, Proc.tc.devRef main_arg2) := h2
  have e3 : m' (c, Proc.tc.devRef Cert.ReferenceIdeal.main_arg3) = m (c, Proc.tc.devRef main_arg3) := h3
  have e4 : m' (c, Proc.tc.devRef Cert.ReferenceIdeal.main_arg4) = m (c, Proc.tc.devRef main_arg4) := h4
  have e5 : m' (c, Proc.tc.devRef Cert.ReferenceIdeal.main_arg5) = m (c, Proc.tc.devRef main_arg5) := h5
  have e6 : m' (c, Proc.tc.devRef Cert.ReferenceIdeal.main_arg6) = m (c, Proc.tc.devRef main_arg6) := h6
  rw [e0, e1, e2, e3, e4, e5, e6]

end Cert.Proof.Value

end
-- ==== Proof.ExpertsBlock.lean ====
/-
  What one grid point of the experts' kernel leaves, as a function of the contents of its operand blocks, and the run of
  its body at one point.
-/
module

public import proofs.«01_k».proof.Proof.Gen.Kernel2Ideal.Skeleton
public import proofs.«01_k».proof.Proof.Gen.Kernel2Ideal.Launch
public import Idealize.ShloMosaic.Lib.Pipeline.ValueKit
public import Idealize.ShloMosaic.Lib.Tactic

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (Piece canon ld)

variable {F : FTy → Type} [FloatOps F]

local notation "𝕄" => MT nD τ sig Unit (Elt F) ℕ (UR sig nD τ) ℕ

/-- The eight lane chunks of a block of expert rows, each at its columns: the last written first. -/
def xPieces (x3 : S4096x128.Idx → Elt F .f32) : List (Piece (Elt F) S512x1024 .bf16) :=
  [⟨Rect.unit (s := S512x1024) ![0, 896] S512x128.size inb_S512x1024_S512x128_0_896, k0_pay16 (fun z => x3 ((⟨![7, 0], S512x128.size, ![8, 1], inb_S4096x128_S512x128_7_0_s_8_1⟩ : LoadRect S4096x128).idx z))⟩,
   ⟨Rect.unit (s := S512x1024) ![0, 768] S512x128.size inb_S512x1024_S512x128_0_768, k0_pay15 (fun z => x3 ((⟨![6, 0], S512x128.size, ![8, 1], inb_S4096x128_S512x128_6_0_s_8_1⟩ : LoadRect S4096x128).idx z))⟩,
   ⟨Rect.unit (s := S512x1024) ![0, 640] S512x128.size inb_S512x1024_S512x128_0_640, k0_pay14 (fun z => x3 ((⟨![5, 0], S512x128.size, ![8, 1], inb_S4096x128_S512x128_5_0_s_8_1⟩ : LoadRect S4096x128).idx z))⟩,
   ⟨Rect.unit (s := S512x1024) ![0, 512] S512x128.size inb_S512x1024_S512x128_0_512, k0_pay13 (fun z => x3 ((⟨![4, 0], S512x128.size, ![8, 1], inb_S4096x128_S512x128_4_0_s_8_1⟩ : LoadRect S4096x128).idx z))⟩,
   ⟨Rect.unit (s := S512x1024) ![0, 384] S512x128.size inb_S512x1024_S512x128_0_384, k0_pay12 (fun z => x3 ((⟨![3, 0], S512x128.size, ![8, 1], inb_S4096x128_S512x128_3_0_s_8_1⟩ : LoadRect S4096x128).idx z))⟩,
   ⟨Rect.unit (s := S512x1024) ![0, 256] S512x128.size inb_S512x1024_S512x128_0_256, k0_pay11 (fun z => x3 ((⟨![2, 0], S512x128.size, ![8, 1], inb_S4096x128_S512x128_2_0_s_8_1⟩ : LoadRect S4096x128).idx z))⟩,
   ⟨Rect.unit (s := S512x1024) ![0, 128] S512x128.size inb_S512x1024_S512x128_0_128, k0_pay10 (fun z => x3 ((⟨![1, 0], S512x128.size, ![8, 1], inb_S4096x128_S512x128_1_0_s_8_1⟩ : LoadRect S4096x128).idx z))⟩,
   ⟨Rect.unit (s := S512x1024) ![0, 0] S512x128.size inb_S512x1024_S512x128_0_0, k0_pay9 (fun z => x3 ((⟨![0, 0], S512x128.size, ![8, 1], inb_S4096x128_S512x128_0_0_s_8_1⟩ : LoadRect S4096x128).idx z))⟩]

/-- The block of expert rows, 512 rows of 1024 columns. -/
def xBf (x3 : S4096x128.Idx → Elt F .f32) : FVec F S512x1024 .bf16 :=
  ld (canon (xPieces x3)) (Rect.unit (s := S512x1024) ![0, 0] S512x1024.size inb_S512x1024_S512x1024_0_0)

/-- The expert's gate and up weights, narrowed. -/
def wGu (x4 : S1x1024x2048.Idx → Elt F .f32) : S1024x2048.Idx → Elt F .bf16 :=
  k0_pay1 (ld x4 (Rect.unit (s := S1x1024x2048) ![0, 0, 0] S1x1024x2048.size inb_S1x1024x2048_S1x1024x2048_0_0_0))

/-- The expert's down weights, narrowed. -/
def wDn (x6 : S1x1024x1024.Idx → Elt F .f32) : S1024x1024.Idx → Elt F .bf16 :=
  k0_pay2 (ld x6 (Rect.unit (s := S1x1024x1024) ![0, 0, 0] S1x1024x1024.size inb_S1x1024x1024_S1x1024x1024_0_0_0))

/-- Rows of 1024 columns as a block of the result holds them: row `r`'s lane chunk `j` at place `8 r + j`. -/
def placed (R : FVec F S512x1024 .f32) : S4096x128.Idx → Elt F .f32 := fun y =>
  R (fun a => match a with
    | 0 => ⟨(y 0).val / 8, by have h : (y 0).val < 4096 := (y 0).isLt; show _ < 512; omega⟩
    | 1 => ⟨128 * ((y 0).val % 8) + (y 1).val, by have h : (y 1).val < 128 := (y 1).isLt; show _ < 1024; omega⟩)

section Rows

variable (x3 : S4096x128.Idx → Elt F .f32) (w10 : S1024x2048.Idx → Elt F .bf16) (x5 : S1x1x2048.Idx → Elt F .f32)
  (w11 : S1024x1024.Idx → Elt F .bf16) (x7 : S1x1x1024.Idx → Elt F .f32)

/-- The feed-forward network of one expert over its block of rows, in four stages of 256 hidden units. -/
def rows : FVec F S512x1024 .f32 :=
  k0_pay29
    (k0_pay24 (k0_pay19 (xBf x3) (ld w10 (Rect.unit (s := S1024x2048) ![0, 256] S1024x256.size inb_S1024x2048_S1024x256_0_256)) (ld x5 (Rect.unit (s := S1x1x2048) ![0, 0, 256] S1x1x256.size inb_S1x1x2048_S1x1x256_0_0_256))) (k0_pay20 (xBf x3) (ld w10 (Rect.unit (s := S1024x2048) ![0, 1280] S1024x256.size inb_S1024x2048_S1024x256_0_1280)) (ld x5 (Rect.unit (s := S1x1x2048) ![0, 0, 1280] S1x1x256.size inb_S1x1x2048_S1x1x256_0_0_1280)))
      (k0_pay21 (k0_pay17 (xBf x3) (ld w10 (Rect.unit (s := S1024x2048) ![0, 0] S1024x256.size inb_S1024x2048_S1024x256_0_0)) (ld x5 (Rect.unit (s := S1x1x2048) ![0, 0, 0] S1x1x256.size inb_S1x1x2048_S1x1x256_0_0_0))) (k0_pay18 (xBf x3) (ld w10 (Rect.unit (s := S1024x2048) ![0, 1024] S1024x256.size inb_S1024x2048_S1024x256_0_1024)) (ld x5 (Rect.unit (s := S1x1x2048) ![0, 0, 1024] S1x1x256.size inb_S1x1x2048_S1x1x256_0_0_1024))) (ld w11 (Rect.unit (s := S1024x1024) ![0, 0] S256x1024.size inb_S1024x1024_S256x1024_0_0)))
      (Scalar.ofBits .f32 0x40E00000#32) (ld w11 (Rect.unit (s := S1024x1024) ![256, 0] S256x1024.size inb_S1024x1024_S256x1024_256_0)))
    (k0_pay25 (xBf x3) (ld w10 (Rect.unit (s := S1024x2048) ![0, 768] S1024x256.size inb_S1024x2048_S1024x256_0_768)) (ld x5 (Rect.unit (s := S1x1x2048) ![0, 0, 768] S1x1x256.size inb_S1x1x2048_S1x1x256_0_0_768))) (k0_pay26 (xBf x3) (ld w10 (Rect.unit (s := S1024x2048) ![0, 1792] S1024x256.size inb_S1024x2048_S1024x256_0_1792)) (ld x5 (Rect.unit (s := S1x1x2048) ![0, 0, 1792] S1x1x256.size inb_S1x1x2048_S1x1x256_0_0_1792)))
    (k0_pay27 (k0_pay22 (xBf x3) (ld w10 (Rect.unit (s := S1024x2048) ![0, 512] S1024x256.size inb_S1024x2048_S1024x256_0_512)) (ld x5 (Rect.unit (s := S1x1x2048) ![0, 0, 512] S1x1x256.size inb_S1x1x2048_S1x1x256_0_0_512)))) (k0_pay28 (k0_pay23 (xBf x3) (ld w10 (Rect.unit (s := S1024x2048) ![0, 1536] S1024x256.size inb_S1024x2048_S1024x256_0_1536)) (ld x5 (Rect.unit (s := S1x1x2048) ![0, 0, 1536] S1x1x256.size inb_S1x1x2048_S1x1x256_0_0_1536))))
    (ld w11 (Rect.unit (s := S1024x1024) ![512, 0] S256x1024.size inb_S1024x1024_S256x1024_512_0)) (ld w11 (Rect.unit (s := S1024x1024) ![768, 0] S256x1024.size inb_S1024x1024_S256x1024_768_0))
    (ld x7 (Rect.unit (s := S1x1x1024) ![0, 0, 0] S1x1x1024.size inb_S1x1x1024_S1x1x1024_0_0_0))

/-- The rows as the block of the result holds them. -/
def rowsBlk : S4096x128.Idx → Elt F .f32 := placed (rows x3 w10 x5 w11 x7)

end Rows

/-- Whether a grid point fetches its expert anew: it is the first, or its expert is another than the one before. -/
def fresh (i : grid0.Coords) (b b' : BitVec 32) : BitVec 1 :=
  Scalar.cmpi .ne (Scalar.extui (Scalar.ori (Scalar.cmpi .eq (BitVec.ofNat 32 (i 0).val) 0#32) (Scalar.cmpi .ne b b')) : BitVec 32) 0#32

/-- The count of blocks in use. -/
def nAt (x2 : S1.Idx → Elt F .i32) : BitVec 32 :=
  ld x2 (Rect.unit (s := S1) ![0] S1.size inb_S1_S1_0) (Shape.Idx.first (numel1_S1.symm ▸ Nat.one_pos))

/-- The expert of grid point `i`. -/
def eAt (i : grid0.Coords) (x1 : S288.Idx → Elt F .i32) : BitVec 32 :=
  ld x1 (Rect.unit (s := S288) (k0_off1 i) S1.size (k0_off1_inb i)) (Shape.Idx.first (numel1_S1.symm ▸ Nat.one_pos))

/-- The expert of the grid point before `i` (of `i` itself, at the first). -/
def eBefore (i : grid0.Coords) (x1 : S288.Idx → Elt F .i32) : BitVec 32 :=
  ld x1 (Rect.unit (s := S288) (k0_off2 i) S1.size (k0_off2_inb i)) (Shape.Idx.first (numel1_S1.symm ▸ Nat.one_pos))

/-- The block of the result that grid point `i` leaves: its expert's rows, or zeros past the blocks in use. -/
def outBlk (i : grid0.Coords) (n : BitVec 32) (x3 : S4096x128.Idx → Elt F .f32) (x4 : S1x1024x2048.Idx → Elt F .f32)
    (x5 : S1x1x2048.Idx → Elt F .f32) (x6 : S1x1024x1024.Idx → Elt F .f32) (x7 : S1x1x1024.Idx → Elt F .f32) :
    S4096x128.Idx → Elt F .f32 :=
  if k0_cond3 i n = 1#1 then k0_pay8 else rowsBlk x3 (wGu x4) x5 (wDn x6) x7

/-- One of the two conditions on the point always holds. -/
theorem cond_or (i : grid0.Coords) (n : BitVec 32) (h : ¬ k0_cond3 i n = 1#1) : k0_cond2 i n = 1#1 := by
  unfold k0_cond3 at h; unfold k0_cond2
  dsimp only at h ⊢
  generalize BitVec.ofNat 32 (i 0).val = w at h ⊢
  have hcmp : ∀ b : Bool, Scalar.cmpi .ne (Scalar.extui (BitVec.ofBool b) : BitVec 32) 0#32 = BitVec.ofBool b := by decide
  have h3 : Scalar.cmpi .sge w n = BitVec.ofBool (n.sle w) := rfl
  have h2 : Scalar.cmpi .slt w n = BitVec.ofBool (w.slt n) := rfl
  rw [h3, hcmp] at h
  rw [h2, hcmp]
  have : w.slt n = !(n.sle w) := by rw [BitVec.sle_eq_not_slt]; simp
  rw [this]
  cases hb : n.sle w
  · rfl
  · rw [hb] at h; exact absurd rfl h

/-- Storing a whole buffer leaves what was stored. -/
theorem read_store_whole {κ sp} {s : Shape} {e : EltTy} (v : View sig κ sp s e) (f : v.ty.Contents (Elt F)) (off : Fin s.rank → ℕ) (h0 : off = fun _ => 0)
    (inb) (w : s.Idx → Elt F e) :
    v.read (Elt F) (v.writes (Elt F) f [⟨Rect.unit off s.size inb, w⟩]) = w := by
  rw [View.read_writes_eq_canon _ _ _ fun y => ⟨_, List.mem_cons_self, View.mem_set_unit_zero h0 inb y⟩]
  exact View.canon_unit_zero h0 inb w

/-- The eight strided stores of a block of rows, a lane chunk each: the last first. -/
def storePieces (R : FVec F S512x1024 .f32) : List (Piece (Elt F) S4096x128 .f32) :=
  [⟨⟨⟨![7, 0], S512x128.size, ![8, 1], inb_S4096x128_S512x128_7_0_s_8_1⟩, spos_8_1⟩, extractStridedSlice S512x128 ![0, 896] R slices_S512x1024_o0_896_S512x128⟩,
   ⟨⟨⟨![6, 0], S512x128.size, ![8, 1], inb_S4096x128_S512x128_6_0_s_8_1⟩, spos_8_1⟩, extractStridedSlice S512x128 ![0, 768] R slices_S512x1024_o0_768_S512x128⟩,
   ⟨⟨⟨![5, 0], S512x128.size, ![8, 1], inb_S4096x128_S512x128_5_0_s_8_1⟩, spos_8_1⟩, extractStridedSlice S512x128 ![0, 640] R slices_S512x1024_o0_640_S512x128⟩,
   ⟨⟨⟨![4, 0], S512x128.size, ![8, 1], inb_S4096x128_S512x128_4_0_s_8_1⟩, spos_8_1⟩, extractStridedSlice S512x128 ![0, 512] R slices_S512x1024_o0_512_S512x128⟩,
   ⟨⟨⟨![3, 0], S512x128.size, ![8, 1], inb_S4096x128_S512x128_3_0_s_8_1⟩, spos_8_1⟩, extractStridedSlice S512x128 ![0, 384] R slices_S512x1024_o0_384_S512x128⟩,
   ⟨⟨⟨![2, 0], S512x128.size, ![8, 1], inb_S4096x128_S512x128_2_0_s_8_1⟩, spos_8_1⟩, extractStridedSlice S512x128 ![0, 256] R slices_S512x1024_o0_256_S512x128⟩,
   ⟨⟨⟨![1, 0], S512x128.size, ![8, 1], inb_S4096x128_S512x128_1_0_s_8_1⟩, spos_8_1⟩, extractStridedSlice S512x128 ![0, 128] R slices_S512x1024_o0_128_S512x128⟩,
   ⟨⟨⟨![0, 0], S512x128.size, ![8, 1], inb_S4096x128_S512x128_0_0_s_8_1⟩, spos_8_1⟩, extractStridedSlice S512x128 ![0, 0] R slices_S512x1024_o0_0_S512x128⟩]

/-- The eight strided stores of the result, whatever was there before, leave the rows' block. -/
theorem stores_out {κ sp} (v : View sig κ sp S4096x128 .f32) (f : v.ty.Contents (Elt F)) (R : FVec F S512x1024 .f32) :
    v.read (Elt F) (v.writes (Elt F) f
      (storePieces R))
      = placed R := by
  have hG : ∀ (j : ℕ) (hj : j < 8) (h : ∀ a, _) (hs : _) (z : S512x128.Idx),
      extractStridedSlice S512x128 ![0, 128 * j] R hs z
        = placed R ((⟨⟨![j, 0], S512x128.size, ![8, 1], h⟩, spos_8_1⟩ : Rect S4096x128).emb z) := by
    intro j hj h hs z
    have h0 : (z 0).val < 512 := (z 0).isLt
    have h1 : (z 1).val < 128 := (z 1).isLt
    unfold extractStridedSlice placed
    congr 1
    funext a
    apply Fin.ext
    match a with
    | 0 => show 0 + (z 0).val = (j + 8 * (z 0).val) / 8; omega
    | 1 => show 128 * j + (z 1).val = 128 * ((j + 8 * (z 0).val) % 8) + (0 + 1 * (z 1).val); omega
  have hcov : ∀ (y : S4096x128.Idx) (j : ℕ) (h : ∀ a, _), (y 0).val % 8 = j →
      y ∈ (⟨⟨![j, 0], S512x128.size, ![8, 1], h⟩, spos_8_1⟩ : Rect S4096x128).set := by
    intro y j h hj
    have h0 : (y 0).val < 4096 := (y 0).isLt
    have h1 : (y 1).val < 128 := (y 1).isLt
    rw [LoadRect.mem_set]; intro a
    match a with
    | 0 => exact ⟨(y 0).val / 8, by show _ < 512; omega, by show (y 0).val = j + 8 * ((y 0).val / 8); omega⟩
    | 1 => exact ⟨(y 1).val, h1, by show (y 1).val = 0 + 1 * (y 1).val; omega⟩
  have hall : ∀ y : S4096x128.Idx, ∃ p ∈ (storePieces R : List (Piece (Elt F) S4096x128 .f32)), y ∈ p.1.set := by
    intro y
    have : (y 0).val % 8 < 8 := Nat.mod_lt _ (by decide)
    obtain h | h | h | h | h | h | h | h : (y 0).val % 8 = 7 ∨ (y 0).val % 8 = 6 ∨ (y 0).val % 8 = 5 ∨ (y 0).val % 8 = 4 ∨ (y 0).val % 8 = 3
        ∨ (y 0).val % 8 = 2 ∨ (y 0).val % 8 = 1 ∨ (y 0).val % 8 = 0 := by omega
    · exact ⟨_, .head _, hcov y 7 _ h⟩
    · exact ⟨_, .tail _ (.head _), hcov y 6 _ h⟩
    · exact ⟨_, .tail _ (.tail _ (.head _)), hcov y 5 _ h⟩
    · exact ⟨_, .tail _ (.tail _ (.tail _ (.head _))), hcov y 4 _ h⟩
    · exact ⟨_, .tail _ (.tail _ (.tail _ (.tail _ (.head _)))), hcov y 3 _ h⟩
    · exact ⟨_, .tail _ (.tail _ (.tail _ (.tail _ (.tail _ (.head _))))), hcov y 2 _ h⟩
    · exact ⟨_, .tail _ (.tail _ (.tail _ (.tail _ (.tail _ (.tail _ (.head _)))))), hcov y 1 _ h⟩
    · exact ⟨_, .tail _ (.tail _ (.tail _ (.tail _ (.tail _ (.tail _ (.tail _ (.head _))))))), hcov y 0 _ h⟩
  rw [View.read_writes_eq_canon _ _ _ hall]
  funext y
  refine View.canon_apply_of_pieces (placed R) _ ?_ y (hall y)
  intro p hp
  unfold storePieces at hp
  simp only [List.mem_cons, List.not_mem_nil, _root_.or_false] at hp
  obtain rfl | rfl | rfl | rfl | rfl | rfl | rfl | rfl := hp
  · exact hG 7 (by decide) _ slices_S512x1024_o0_896_S512x128
  · exact hG 6 (by decide) _ slices_S512x1024_o0_768_S512x128
  · exact hG 5 (by decide) _ slices_S512x1024_o0_640_S512x128
  · exact hG 4 (by decide) _ slices_S512x1024_o0_512_S512x128
  · exact hG 3 (by decide) _ slices_S512x1024_o0_384_S512x128
  · exact hG 2 (by decide) _ slices_S512x1024_o0_256_S512x128
  · exact hG 1 (by decide) _ slices_S512x1024_o0_128_S512x128
  · exact hG 0 (by decide) _ slices_S512x1024_o0_0_S512x128

end Cert.Proof.Experts

end
-- ==== Proof.ExpertsBody.lean ====
/-
  The run of the experts' kernel at one grid point.
-/
module

public import proofs.«01_k».proof.Proof.Gen.Kernel2Ideal.Skeleton
public import proofs.«01_k».proof.Proof.Gen.Kernel2Ideal.Launch
public import Idealize.ShloMosaic.Lib.Pipeline.ValueKit
public import Idealize.ShloMosaic.Lib.Tactic
public import proofs.«01_k».proof.Proof.ExpertsBlock

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.View (Piece canon ld)

variable {F : FTy → Type} [FloatOps F]

local notation "𝕄" => MT nD τ sig Unit (Elt F) ℕ (UR sig nD τ) ℕ

set_option maxHeartbeats 2000000 in
/-- The body at one grid point: given the tables at half share, its operand blocks at known values, the scratch weights
    either fetched anew or already this expert's, it leaves `outBlk` and the expert's weights in the scratch. -/
theorem sound_kernel (c : Dev nD) (E : Set ℕ) (i : grid0.Coords)
  (arg1 : Memref sig .tc .smem S288 .i32) (harg1 : arg1.IsWhole) (arg2 : Memref sig .tc .smem S1 .i32) (harg2 : arg2.IsWhole) (arg3 : Memref sig .tc .vmem S4096x128 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S4096x128 .f32) (harg8 : arg8.IsWhole) (arg9 : Memref sig .tc .vmem S512x1024 .bf16) (harg9 : arg9.IsWhole) (arg10 : Memref sig .tc .vmem S1024x2048 .bf16) (harg10 : arg10.IsWhole) (arg11 : Memref sig .tc .vmem S1024x1024 .bf16) (harg11 : arg11.IsWhole)
    (x1 : S288.Idx → Elt F .i32) (x2 : S1.Idx → Elt F .i32) (x3 : S4096x128.Idx → Elt F .f32) (x4 : S1x1024x2048.Idx → Elt F .f32)
    (x5 : S1x1x2048.Idx → Elt F .f32) (x6 : S1x1024x1024.Idx → Elt F .f32) (x7 : S1x1x1024.Idx → Elt F .f32)
    (d10 : S1024x2048.Idx → Elt F .bf16) (d11 : S1024x1024.Idx → Elt F .bf16)
    (hkeep : ¬ fresh i (eAt i x1) (eBefore i x1) = 1#1 → d10 = wGu x4 ∧ d11 = wDn x6) (K : PUnit → sProp 𝕄) :
    iprop((owns (c : Thread nD τ) arg1 fullShare.right x1 ∗ owns (c : Thread nD τ) arg2 fullShare.right x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ (∃ d, owns (c : Thread nD τ) arg8 fullShare d) ∗ (∃ d, owns (c : Thread nD τ) arg9 fullShare d)
        ∗ owns (c : Thread nD τ) arg10 fullShare d10 ∗ owns (c : Thread nD τ) arg11 fullShare d11)
      ∗ ((owns (c : Thread nD τ) arg1 fullShare.right x1 ∗ owns (c : Thread nD τ) arg2 fullShare.right x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare (outBlk i (nAt x2) x3 x4 x5 x6 x7)
        ∗ (∃ d, owns (c : Thread nD τ) arg9 fullShare d)
        ∗ owns (c : Thread nD τ) arg10 fullShare (wGu x4) ∗ owns (c : Thread nD τ) arg11 fullShare (wDn x6)) -∗ K ⟨⟩))
      ⊢ wp frame (wpE (defs₀ (F := F)) Variants.none (c : Thread nD τ) none) E
          (cc0_experts i arg1 harg1 arg2 harg2 arg3 harg3 arg4 harg4 arg5 harg5 arg6 harg6 arg7 harg7 arg8 harg8 arg9 harg9 arg10 harg10 arg11 harg11) K := by
  simp only [cc0_experts_eq_skeleton]; unfold cc0_experts_skel
  simp only [k0_part1_eq_skeleton, k0_part2_eq_skeleton, k0_part3_eq_skeleton, k0_part4_eq_skeleton, k0_part5_eq_skeleton]
  unfold owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, %e8, H8⟩, ⟨%d9, %f9, %e9, H9⟩, ⟨%f10, %e10, H10⟩, ⟨%f11, %e11, H11⟩⟩, Hk⟩
  subst e1 e2 e3 e4 e5 e6 e7 e10 e11
  sl_exec
  rw [wp_ret]; imodintro
  have h10 : arg10.view.read (Elt F) (if hc : fresh i (sound_kernel.sl.r_1 c i arg1 f1) (sound_kernel.sl.r_2 c i arg1 f1) = 1#1 then
      arg10.view.writes (Elt F) f10
        [⟨Rect.unit (s := S1024x2048) ![0, 0] ![1024, 2048] inb_S1024x2048_S1024x2048_0_0,
            wGu (arg4.view.read (Elt F) f4)⟩]
      else f10) = wGu (arg4.view.read (Elt F) f4) := by
    split
    · exact read_store_whole _ _ _ (by funext a; match a with | 0 => rfl | 1 => rfl) _ _
    · rename_i hc; exact (hkeep hc).1
  have h11 : arg11.view.read (Elt F) (if hc : fresh i (sound_kernel.sl.r_1 c i arg1 f1) (sound_kernel.sl.r_2 c i arg1 f1) = 1#1 then
      arg11.view.writes (Elt F) f11
        [⟨Rect.unit (s := S1024x1024) ![0, 0] ![1024, 1024] inb_S1024x1024_S1024x1024_0_0,
            wDn (arg6.view.read (Elt F) f6)⟩]
      else f11) = wDn (arg6.view.read (Elt F) f6) := by
    split
    · exact read_store_whole _ _ _ (by funext a; match a with | 0 => rfl | 1 => rfl) _ _
    · rename_i hc; exact (hkeep hc).2
  have h58 : sound_kernel.sl.v58 c arg3 arg9 f3 = xBf (arg3.view.read (Elt F) f3) := by
    unfold sound_kernel.sl.v58
    rw [View.readCov_eq_canon']
    rfl
  have hrows : sound_kernel.sl.r_15 c i arg1 arg3 arg4 arg5 arg6 arg7 arg9 arg10 arg11 f1 f3 f4 f5 f6 f7 f10 f11
      = rows (arg3.view.read (Elt F) f3) (wGu (arg4.view.read (Elt F) f4)) (arg5.view.read (Elt F) f5) (wDn (arg6.view.read (Elt F) f6)) (arg7.view.read (Elt F) f7) := by
    have h59 : sound_kernel.sl.v59 c i arg1 arg4 arg10 f1 f4 f10 = ld (wGu (arg4.view.read (Elt F) f4)) (Rect.unit (s := S1024x2048) ![0, 0] S1024x256.size inb_S1024x2048_S1024x256_0_0) := by
      rw [← h10]; rfl
    have h65 : sound_kernel.sl.v65 c i arg1 arg4 arg10 f1 f4 f10 = ld (wGu (arg4.view.read (Elt F) f4)) (Rect.unit (s := S1024x2048) ![0, 1024] S1024x256.size inb_S1024x2048_S1024x256_0_1024) := by
      rw [← h10]; rfl
    have h71 : sound_kernel.sl.v71 c i arg1 arg4 arg10 f1 f4 f10 = ld (wGu (arg4.view.read (Elt F) f4)) (Rect.unit (s := S1024x2048) ![0, 256] S1024x256.size inb_S1024x2048_S1024x256_0_256) := by
      rw [← h10]; rfl
    have h77 : sound_kernel.sl.v77 c i arg1 arg4 arg10 f1 f4 f10 = ld (wGu (arg4.view.read (Elt F) f4)) (Rect.unit (s := S1024x2048) ![0, 1280] S1024x256.size inb_S1024x2048_S1024x256_0_1280) := by
      rw [← h10]; rfl
    have h99 : sound_kernel.sl.v99 c i arg1 arg4 arg10 f1 f4 f10 = ld (wGu (arg4.view.read (Elt F) f4)) (Rect.unit (s := S1024x2048) ![0, 512] S1024x256.size inb_S1024x2048_S1024x256_0_512) := by
      rw [← h10]; rfl
    have h105 : sound_kernel.sl.v105 c i arg1 arg4 arg10 f1 f4 f10 = ld (wGu (arg4.view.read (Elt F) f4)) (Rect.unit (s := S1024x2048) ![0, 1536] S1024x256.size inb_S1024x2048_S1024x256_0_1536) := by
      rw [← h10]; rfl
    have h128 : sound_kernel.sl.v128 c i arg1 arg4 arg10 f1 f4 f10 = ld (wGu (arg4.view.read (Elt F) f4)) (Rect.unit (s := S1024x2048) ![0, 768] S1024x256.size inb_S1024x2048_S1024x256_0_768) := by
      rw [← h10]; rfl
    have h134 : sound_kernel.sl.v134 c i arg1 arg4 arg10 f1 f4 f10 = ld (wGu (arg4.view.read (Elt F) f4)) (Rect.unit (s := S1024x2048) ![0, 1792] S1024x256.size inb_S1024x2048_S1024x256_0_1792) := by
      rw [← h10]; rfl
    have h97 : sound_kernel.sl.v97 c i arg1 arg6 arg11 f1 f6 f11 = ld (wDn (arg6.view.read (Elt F) f6)) (Rect.unit (s := S1024x1024) ![0, 0] S256x1024.size inb_S1024x1024_S256x1024_0_0) := by
      rw [← h11]; rfl
    have h125 : sound_kernel.sl.v125 c i arg1 arg6 arg11 f1 f6 f11 = ld (wDn (arg6.view.read (Elt F) f6)) (Rect.unit (s := S1024x1024) ![256, 0] S256x1024.size inb_S1024x1024_S256x1024_256_0) := by
      rw [← h11]; rfl
    have h154 : sound_kernel.sl.v154 c i arg1 arg6 arg11 f1 f6 f11 = ld (wDn (arg6.view.read (Elt F) f6)) (Rect.unit (s := S1024x1024) ![512, 0] S256x1024.size inb_S1024x1024_S256x1024_512_0) := by
      rw [← h11]; rfl
    have h171 : sound_kernel.sl.v171 c i arg1 arg6 arg11 f1 f6 f11 = ld (wDn (arg6.view.read (Elt F) f6)) (Rect.unit (s := S1024x1024) ![768, 0] S256x1024.size inb_S1024x1024_S256x1024_768_0) := by
      rw [← h11]; rfl
    unfold sound_kernel.sl.r_15 sound_kernel.sl.r_14 sound_kernel.sl.r_13 sound_kernel.sl.r_12 sound_kernel.sl.r_11 sound_kernel.sl.r_10 sound_kernel.sl.r_9 sound_kernel.sl.r_8 sound_kernel.sl.r_7 sound_kernel.sl.r_6 sound_kernel.sl.r_5 sound_kernel.sl.r_4 sound_kernel.sl.r_3 sound_kernel.sl.cst_64
    simp only [h58, h59, h65, h71, h77, h99, h105, h128, h134, h97, h125, h154, h171]
    rfl
  have h8 : arg8.view.read (Elt F) (if hc : k0_cond3 i (sound_kernel.sl.r c arg2 f2) = 1#1 then arg8.view.writes (Elt F) (if hc : k0_cond2 i (sound_kernel.sl.r c arg2 f2) = 1#1 then arg8.view.writes (Elt F) f8
        [⟨⟨⟨![7, 0], ![512, 128], ![8, 1], inb_S4096x128_S512x128_7_0_s_8_1⟩, spos_8_1⟩, k0_pay7 (sound_kernel.sl.r_15 c i arg1 arg3 arg4 arg5 arg6 arg7 arg9 arg10 arg11 f1 f3 f4 f5 f6 f7 f10 f11)⟩,
        ⟨⟨⟨![6, 0], ![512, 128], ![8, 1], inb_S4096x128_S512x128_6_0_s_8_1⟩, spos_8_1⟩, k0_pay6 (sound_kernel.sl.r_15 c i arg1 arg3 arg4 arg5 arg6 arg7 arg9 arg10 arg11 f1 f3 f4 f5 f6 f7 f10 f11)⟩,
        ⟨⟨⟨![5, 0], ![512, 128], ![8, 1], inb_S4096x128_S512x128_5_0_s_8_1⟩, spos_8_1⟩, k0_pay5 (sound_kernel.sl.r_15 c i arg1 arg3 arg4 arg5 arg6 arg7 arg9 arg10 arg11 f1 f3 f4 f5 f6 f7 f10 f11)⟩,
        ⟨⟨⟨![4, 0], ![512, 128], ![8, 1], inb_S4096x128_S512x128_4_0_s_8_1⟩, spos_8_1⟩, k0_pay4 (sound_kernel.sl.r_15 c i arg1 arg3 arg4 arg5 arg6 arg7 arg9 arg10 arg11 f1 f3 f4 f5 f6 f7 f10 f11)⟩,
        ⟨⟨⟨![3, 0], ![512, 128], ![8, 1], inb_S4096x128_S512x128_3_0_s_8_1⟩, spos_8_1⟩, k0_pay3 (sound_kernel.sl.r_15 c i arg1 arg3 arg4 arg5 arg6 arg7 arg9 arg10 arg11 f1 f3 f4 f5 f6 f7 f10 f11)⟩,
        ⟨⟨⟨![2, 0], S512x128.size, ![8, 1], inb_S4096x128_S512x128_2_0_s_8_1⟩, spos_8_1⟩, k0_pay32 (sound_kernel.sl.r_10 c i arg1 arg3 arg4 arg5 arg6 arg9 arg10 arg11 f1 f3 f4 f5 f6 f10 f11) (sound_kernel.sl.r_11 c i arg1 arg3 arg4 arg5 arg9 arg10 f1 f3 f4 f5 f10) (sound_kernel.sl.r_12 c i arg1 arg3 arg4 arg5 arg9 arg10 f1 f3 f4 f5 f10) (sound_kernel.sl.r_13 c i arg1 arg3 arg4 arg5 arg9 arg10 f1 f3 f4 f5 f10) (sound_kernel.sl.r_14 c i arg1 arg3 arg4 arg5 arg9 arg10 f1 f3 f4 f5 f10) (sound_kernel.sl.v154 c i arg1 arg6 arg11 f1 f6 f11) (sound_kernel.sl.v171 c i arg1 arg6 arg11 f1 f6 f11) (View.readAt (Elt F) arg7.view (Rect.unit (s := S1x1x1024) ![0, 0, 0] S1x1x1024.size inb_S1x1x1024_S1x1x1024_0_0_0).toLoadRect f7)⟩,
        ⟨⟨⟨![1, 0], S512x128.size, ![8, 1], inb_S4096x128_S512x128_1_0_s_8_1⟩, spos_8_1⟩, k0_pay31 (sound_kernel.sl.r_10 c i arg1 arg3 arg4 arg5 arg6 arg9 arg10 arg11 f1 f3 f4 f5 f6 f10 f11) (sound_kernel.sl.r_11 c i arg1 arg3 arg4 arg5 arg9 arg10 f1 f3 f4 f5 f10) (sound_kernel.sl.r_12 c i arg1 arg3 arg4 arg5 arg9 arg10 f1 f3 f4 f5 f10) (sound_kernel.sl.r_13 c i arg1 arg3 arg4 arg5 arg9 arg10 f1 f3 f4 f5 f10) (sound_kernel.sl.r_14 c i arg1 arg3 arg4 arg5 arg9 arg10 f1 f3 f4 f5 f10) (sound_kernel.sl.v154 c i arg1 arg6 arg11 f1 f6 f11) (sound_kernel.sl.v171 c i arg1 arg6 arg11 f1 f6 f11) (View.readAt (Elt F) arg7.view (Rect.unit (s := S1x1x1024) ![0, 0, 0] S1x1x1024.size inb_S1x1x1024_S1x1x1024_0_0_0).toLoadRect f7)⟩,
        ⟨⟨⟨![0, 0], S512x128.size, ![8, 1], inb_S4096x128_S512x128_0_0_s_8_1⟩, spos_8_1⟩, k0_pay30 (sound_kernel.sl.r_10 c i arg1 arg3 arg4 arg5 arg6 arg9 arg10 arg11 f1 f3 f4 f5 f6 f10 f11) (sound_kernel.sl.r_11 c i arg1 arg3 arg4 arg5 arg9 arg10 f1 f3 f4 f5 f10) (sound_kernel.sl.r_12 c i arg1 arg3 arg4 arg5 arg9 arg10 f1 f3 f4 f5 f10) (sound_kernel.sl.r_13 c i arg1 arg3 arg4 arg5 arg9 arg10 f1 f3 f4 f5 f10) (sound_kernel.sl.r_14 c i arg1 arg3 arg4 arg5 arg9 arg10 f1 f3 f4 f5 f10) (sound_kernel.sl.v154 c i arg1 arg6 arg11 f1 f6 f11) (sound_kernel.sl.v171 c i arg1 arg6 arg11 f1 f6 f11) (View.readAt (Elt F) arg7.view (Rect.unit (s := S1x1x1024) ![0, 0, 0] S1x1x1024.size inb_S1x1x1024_S1x1x1024_0_0_0).toLoadRect f7)⟩] else f8) [⟨Rect.unit (s := S4096x128) ![0, 0] ![4096, 128] inb_S4096x128_S4096x128_0_0, k0_pay8⟩] else (if hc : k0_cond2 i (sound_kernel.sl.r c arg2 f2) = 1#1 then arg8.view.writes (Elt F) f8
        [⟨⟨⟨![7, 0], ![512, 128], ![8, 1], inb_S4096x128_S512x128_7_0_s_8_1⟩, spos_8_1⟩, k0_pay7 (sound_kernel.sl.r_15 c i arg1 arg3 arg4 arg5 arg6 arg7 arg9 arg10 arg11 f1 f3 f4 f5 f6 f7 f10 f11)⟩,
        ⟨⟨⟨![6, 0], ![512, 128], ![8, 1], inb_S4096x128_S512x128_6_0_s_8_1⟩, spos_8_1⟩, k0_pay6 (sound_kernel.sl.r_15 c i arg1 arg3 arg4 arg5 arg6 arg7 arg9 arg10 arg11 f1 f3 f4 f5 f6 f7 f10 f11)⟩,
        ⟨⟨⟨![5, 0], ![512, 128], ![8, 1], inb_S4096x128_S512x128_5_0_s_8_1⟩, spos_8_1⟩, k0_pay5 (sound_kernel.sl.r_15 c i arg1 arg3 arg4 arg5 arg6 arg7 arg9 arg10 arg11 f1 f3 f4 f5 f6 f7 f10 f11)⟩,
        ⟨⟨⟨![4, 0], ![512, 128], ![8, 1], inb_S4096x128_S512x128_4_0_s_8_1⟩, spos_8_1⟩, k0_pay4 (sound_kernel.sl.r_15 c i arg1 arg3 arg4 arg5 arg6 arg7 arg9 arg10 arg11 f1 f3 f4 f5 f6 f7 f10 f11)⟩,
        ⟨⟨⟨![3, 0], ![512, 128], ![8, 1], inb_S4096x128_S512x128_3_0_s_8_1⟩, spos_8_1⟩, k0_pay3 (sound_kernel.sl.r_15 c i arg1 arg3 arg4 arg5 arg6 arg7 arg9 arg10 arg11 f1 f3 f4 f5 f6 f7 f10 f11)⟩,
        ⟨⟨⟨![2, 0], S512x128.size, ![8, 1], inb_S4096x128_S512x128_2_0_s_8_1⟩, spos_8_1⟩, k0_pay32 (sound_kernel.sl.r_10 c i arg1 arg3 arg4 arg5 arg6 arg9 arg10 arg11 f1 f3 f4 f5 f6 f10 f11) (sound_kernel.sl.r_11 c i arg1 arg3 arg4 arg5 arg9 arg10 f1 f3 f4 f5 f10) (sound_kernel.sl.r_12 c i arg1 arg3 arg4 arg5 arg9 arg10 f1 f3 f4 f5 f10) (sound_kernel.sl.r_13 c i arg1 arg3 arg4 arg5 arg9 arg10 f1 f3 f4 f5 f10) (sound_kernel.sl.r_14 c i arg1 arg3 arg4 arg5 arg9 arg10 f1 f3 f4 f5 f10) (sound_kernel.sl.v154 c i arg1 arg6 arg11 f1 f6 f11) (sound_kernel.sl.v171 c i arg1 arg6 arg11 f1 f6 f11) (View.readAt (Elt F) arg7.view (Rect.unit (s := S1x1x1024) ![0, 0, 0] S1x1x1024.size inb_S1x1x1024_S1x1x1024_0_0_0).toLoadRect f7)⟩,
        ⟨⟨⟨![1, 0], S512x128.size, ![8, 1], inb_S4096x128_S512x128_1_0_s_8_1⟩, spos_8_1⟩, k0_pay31 (sound_kernel.sl.r_10 c i arg1 arg3 arg4 arg5 arg6 arg9 arg10 arg11 f1 f3 f4 f5 f6 f10 f11) (sound_kernel.sl.r_11 c i arg1 arg3 arg4 arg5 arg9 arg10 f1 f3 f4 f5 f10) (sound_kernel.sl.r_12 c i arg1 arg3 arg4 arg5 arg9 arg10 f1 f3 f4 f5 f10) (sound_kernel.sl.r_13 c i arg1 arg3 arg4 arg5 arg9 arg10 f1 f3 f4 f5 f10) (sound_kernel.sl.r_14 c i arg1 arg3 arg4 arg5 arg9 arg10 f1 f3 f4 f5 f10) (sound_kernel.sl.v154 c i arg1 arg6 arg11 f1 f6 f11) (sound_kernel.sl.v171 c i arg1 arg6 arg11 f1 f6 f11) (View.readAt (Elt F) arg7.view (Rect.unit (s := S1x1x1024) ![0, 0, 0] S1x1x1024.size inb_S1x1x1024_S1x1x1024_0_0_0).toLoadRect f7)⟩,
        ⟨⟨⟨![0, 0], S512x128.size, ![8, 1], inb_S4096x128_S512x128_0_0_s_8_1⟩, spos_8_1⟩, k0_pay30 (sound_kernel.sl.r_10 c i arg1 arg3 arg4 arg5 arg6 arg9 arg10 arg11 f1 f3 f4 f5 f6 f10 f11) (sound_kernel.sl.r_11 c i arg1 arg3 arg4 arg5 arg9 arg10 f1 f3 f4 f5 f10) (sound_kernel.sl.r_12 c i arg1 arg3 arg4 arg5 arg9 arg10 f1 f3 f4 f5 f10) (sound_kernel.sl.r_13 c i arg1 arg3 arg4 arg5 arg9 arg10 f1 f3 f4 f5 f10) (sound_kernel.sl.r_14 c i arg1 arg3 arg4 arg5 arg9 arg10 f1 f3 f4 f5 f10) (sound_kernel.sl.v154 c i arg1 arg6 arg11 f1 f6 f11) (sound_kernel.sl.v171 c i arg1 arg6 arg11 f1 f6 f11) (View.readAt (Elt F) arg7.view (Rect.unit (s := S1x1x1024) ![0, 0, 0] S1x1x1024.size inb_S1x1x1024_S1x1x1024_0_0_0).toLoadRect f7)⟩] else f8))
      = outBlk i (nAt (arg2.view.read (Elt F) f2)) (arg3.view.read (Elt F) f3) (arg4.view.read (Elt F) f4) (arg5.view.read (Elt F) f5) (arg6.view.read (Elt F) f6) (arg7.view.read (Elt F) f7) := by
    have hn : sound_kernel.sl.r c arg2 f2 = nAt (arg2.view.read (Elt F) f2) := rfl
    unfold outBlk
    rw [← hn]
    split
    · exact read_store_whole _ _ _ (by funext a; match a with | 0 => rfl | 1 => rfl) _ _
    · rename_i hc
      rw [dif_pos (cond_or _ _ hc)]
      refine (stores_out arg8.view f8 (sound_kernel.sl.r_15 c i arg1 arg3 arg4 arg5 arg6 arg7 arg9 arg10 arg11 f1 f3 f4 f5 f6 f7 f10 f11)).trans ?_
      rw [hrows]
      rfl
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists _
    isplitr
    · ipureintro
      exact h8
    · iexact H8
  isplitl [H9]
  · iexists (arg9.view.read (Elt F) (if hc : k0_cond2 i (sound_kernel.sl.r c arg2 f2) = 1#1 then
        arg9.view.writes (Elt F) f9 (sound_kernel.sl.H9_8 c arg3 f3) else f9)); iexists _; isplitr
    · ipureintro; rfl
    · iexact H9
  isplitl [H10]
  · iexists _; isplitr
    · ipureintro; exact h10
    · iexact H10
  · iexists _; isplitr
    · ipureintro; exact h11
    · iexact H11

end Cert.Proof.Experts

end
-- ==== Proof.ExpertsRun.lean ====
/-
  The run of the experts' kernel: the proof data of the pipelined grid, whose index maps read the two prefetched tables,
  and the run of the whole program from any memory whose tables keep every block inside its array.
-/
module

public import proofs.«01_k».proof.Proof.ExpertsBody

@[expose] public section

set_option maxRecDepth 16384

noncomputable section

namespace Cert.Proof.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The grid's only coordinate is the point's number. -/
theorem coords_val : ∀ t : Fin grid0.N, (grid0.coords t 0).val = t.val := by decide +kernel

/-- The word a point reads its expert at is the point's number. -/
theorem off1_val : ∀ t : Fin grid0.N, k0_off1 (grid0.coords t) = ![t.val] := by decide +kernel

/-- The word it reads the expert before at is the number before. -/
theorem off2_val : ∀ t : Fin grid0.N, k0_off2 (grid0.coords t) = ![t.val - 1] := by decide +kernel

/-- The first grid point always fetches its expert. -/
theorem fresh_zero (t : Fin grid0.N) (h : t.val = 0) (b b' : BitVec 32) : fresh (grid0.coords t) b b' = 1#1 := by
  unfold fresh
  rw [coords_val t, h]
  generalize Scalar.cmpi .ne b b' = u
  revert u; decide

/-- A later grid point fetches its expert if it is another than the one before. -/
theorem eq_of_not_fresh (i : grid0.Coords) (b b' : BitVec 32) (h : ¬ fresh i b b' = 1#1) : b = b' := by
  by_contra hne
  apply h
  unfold fresh
  have : Scalar.cmpi .ne b b' = 1#1 := by
    show BitVec.ofBool (b != b') = 1#1
    rw [bne_iff_ne.mpr hne]; rfl
  rw [this]
  generalize Scalar.cmpi .eq (BitVec.ofNat 32 (i 0).val) 0#32 = u
  revert u; decide

variable (m : (ℓ : Loc nD τ sig) → Buf (Elt F) ℓ) (ρ : Dev nD → PrngReg)

/-- The two tables as the memory holds them: the expert of each block, and the count of blocks in use. -/
def tab : pre0.Contents (Elt F) := fun k => m (((0 : Dev nD).tc : Thread nD τ).loc (pre0.ref k))

/-- Every buffer as the memory holds it. -/
def V (c : Dev nD) (b : Ref sig .tc) : Buf (Elt F) ((c.tc : Thread nD τ).loc b) := m ((c.tc : Thread nD τ).loc b)

variable (hok : ok0 (tab m))

/-- The tables, keeping every block inside its array. -/
abbrev adm : (pcfg0 (F := F)).Adm := ⟨tab m, hok⟩

/-- The block of window `w`'s array at a point. -/
def iblk (c : Dev nD) (w : Fin (cfg0 (adm m hok)).W) (t : Fin (cfg0 (adm m hok)).N) :
    (((cfg0 (adm m hok)).win w).xblock ((cfg0 (adm m hok)).grid.coords t)).Idx → Elt F ((cfg0 (adm m hok)).win w).elt :=
  (((cfg0 (adm m hok)).win w).blk t).view.read (Elt F) (V m c (Pipeline.arrRef spec0 w))

/-- What holds between two points: the scratch weights are those of the point just run. -/
def Φ (c : Dev nD) (k : Fin ((cfg0 (adm m hok)).N + 1)) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ⌜∀ t : Fin (cfg0 (adm m hok)).N, t.val + 1 = k.val → f = wGu (iblk m hok c 1 t)⌝
        ∗ ((c : Thread nD τ).loc cc0_scratch1) ↦{fullShare} f)
    ∗ (∃ f : Buf (Elt F) ((c : Thread nD τ).loc cc0_scratch2), ⌜∀ t : Fin (cfg0 (adm m hok)).N, t.val + 1 = k.val → f = wDn (iblk m hok c 3 t)⌝
        ∗ ((c : Thread nD τ).loc cc0_scratch2) ↦{fullShare} f)
    ∗ (∃ r, prngReg c r)
    ∗ Pipeline.ΦT pre0 (tab m) c)

/-- The proof data of the grid: the inputs' blocks are left as found, the output block is `outBlk` of them. -/
def dats (_ : Fin 1) (c : Dev nD) : Dat τ (Elt F) Unit ℕ (UR sig nD τ) ℕ (cfg0 (adm m hok)) c where
  A w := V m c (Pipeline.arrRef spec0 w)
  after w t := match w with
    | 0 => iblk m hok c 0 t
    | 1 => iblk m hok c 1 t
    | 2 => iblk m hok c 2 t
    | 3 => iblk m hok c 3 t
    | 4 => iblk m hok c 4 t
    | 5 => outBlk (grid0.coords t) (nAt (tab m 1)) (iblk m hok c 0 t) (iblk m hok c 1 t) (iblk m hok c 2 t) (iblk m hok c 3 t) (iblk m hok c 4 t)
  Φ k := Φ m hok c k
  q _ := fullShare
  owed _ := 0

theorem A_eq (c : Dev nD) (w : Fin (cfg0 (adm m hok)).W) : (dats m hok 0 c).A w = V m c (Pipeline.arrRef spec0 w) := by dsimp only [dats]
theorem after_0 (c : Dev nD) (t : Fin (cfg0 (adm m hok)).N) : (dats m hok 0 c).after 0 t = iblk m hok c 0 t := by dsimp only [dats]; rfl
theorem before_0 (c : Dev nD) (t : Fin (cfg0 (adm m hok)).N) (d) : (dats m hok 0 c).before 0 t d = iblk m hok c 0 t :=
  ((dats m hok 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin (cfg0 (adm m hok)).N) : (dats m hok 0 c).after 1 t = iblk m hok c 1 t := by dsimp only [dats]; rfl
theorem before_1 (c : Dev nD) (t : Fin (cfg0 (adm m hok)).N) (d) : (dats m hok 0 c).before 1 t d = iblk m hok c 1 t :=
  ((dats m hok 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin (cfg0 (adm m hok)).N) : (dats m hok 0 c).after 2 t = iblk m hok c 2 t := by dsimp only [dats]; rfl
theorem before_2 (c : Dev nD) (t : Fin (cfg0 (adm m hok)).N) (d) : (dats m hok 0 c).before 2 t d = iblk m hok c 2 t :=
  ((dats m hok 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin (cfg0 (adm m hok)).N) : (dats m hok 0 c).after 3 t = iblk m hok c 3 t := by dsimp only [dats]; rfl
theorem before_3 (c : Dev nD) (t : Fin (cfg0 (adm m hok)).N) (d) : (dats m hok 0 c).before 3 t d = iblk m hok c 3 t :=
  ((dats m hok 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin (cfg0 (adm m hok)).N) : (dats m hok 0 c).after 4 t = iblk m hok c 4 t := by dsimp only [dats]; rfl
theorem before_4 (c : Dev nD) (t : Fin (cfg0 (adm m hok)).N) (d) : (dats m hok 0 c).before 4 t d = iblk m hok c 4 t :=
  ((dats m hok 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin (cfg0 (adm m hok)).N) : (dats m hok 0 c).after 5 t
    = outBlk (grid0.coords t) (nAt (tab m 1)) (iblk m hok c 0 t) (iblk m hok c 1 t) (iblk m hok c 2 t) (iblk m hok c 3 t) (iblk m hok c 4 t) := by
  dsimp only [dats]; rfl

/-- Two points with the same expert have the same block of the first weights. -/
theorem iblk_1_congr (c : Dev nD) (t t' : Fin (cfg0 (adm m hok)).N)
    (h : eAt (grid0.coords t) (tab m 0) = eAt (grid0.coords t') (tab m 0)) : iblk m hok c 1 t = iblk m hok c 1 t' := by
  have hix : ((cfg0 (adm m hok)).win 1).index t = ((cfg0 (adm m hok)).win 1).index t' := by
    show (![(eAt (grid0.coords t) (tab m 0)).toNat, _, _] : Fin 3 → Nat) = ![(eAt (grid0.coords t') (tab m 0)).toNat, _, _]
    rw [h]
  have hd : (((cfg0 (adm m hok)).win 1).block.Idx → Elt F ((cfg0 (adm m hok)).win 1).elt) := iblk m hok c 1 t
  have := (dats m hok 0 c).fetched_congr 1 hix rfl hd
  unfold Dat.fetched Dat.blockOf at this
  unfold iblk; exact this

/-- Two points with the same expert have the same block of the second weights. -/
theorem iblk_3_congr (c : Dev nD) (t t' : Fin (cfg0 (adm m hok)).N)
    (h : eAt (grid0.coords t) (tab m 0) = eAt (grid0.coords t') (tab m 0)) : iblk m hok c 3 t = iblk m hok c 3 t' := by
  have hix : ((cfg0 (adm m hok)).win 3).index t = ((cfg0 (adm m hok)).win 3).index t' := by
    show (![(eAt (grid0.coords t) (tab m 0)).toNat, _, _] : Fin 3 → Nat) = ![(eAt (grid0.coords t') (tab m 0)).toNat, _, _]
    rw [h]
  have hd : (((cfg0 (adm m hok)).win 3).block.Idx → Elt F ((cfg0 (adm m hok)).win 3).elt) := iblk m hok c 3 t
  have := (dats m hok 0 c).fetched_congr 3 hix rfl hd
  unfold Dat.fetched Dat.blockOf at this
  unfold iblk; exact this

/-- The expert a point compares its own with is that of the point before. -/
theorem eBefore_eq (t : Fin grid0.N) (t' : Fin grid0.N) (h : t'.val + 1 = t.val) (x : S288.Idx → Elt F .i32) :
    eBefore (grid0.coords t) x = eAt (grid0.coords t') x := by
  unfold eBefore eAt View.ld
  congr 1
  funext a
  apply Fin.ext
  have h1 := congrFun (off2_val t) a
  have h2 := congrFun (off1_val t') a
  show k0_off2 (grid0.coords t) a + _ = k0_off1 (grid0.coords t') a + _
  rw [h1, h2, show t.val - 1 = t'.val by omega]
  rfl

abbrev st (w : Fin (cfg0 (adm m hok)).W) (t : Fin (cfg0 (adm m hok)).N) := ((cfg0 (adm m hok)).win w).stage ((cfg0 (adm m hok)).slots t w)

/-- The body as the grid calls it at a point. -/
abbrev bodyAt (t : Fin (cfg0 (adm m hok)).N) : Prog (TpuEff nD τ sig (Elt F) Λ₀ .tc) PUnit :=
  cc0_experts (grid0.coords t) (Memref.whole main_arg0) (Memref.isWhole_whole _) (Memref.whole main_arg1) (Memref.isWhole_whole _)
    (spec0_0.stage ((cfg0 (adm m hok)).slots t 0)) (hstage0_0 (((cfg0 (adm m hok)).slots t 0).cast nbuf0_0))
    (spec0_1.stage ((cfg0 (adm m hok)).slots t 1)) (hstage0_1 (((cfg0 (adm m hok)).slots t 1).cast nbuf0_1))
    (spec0_2.stage ((cfg0 (adm m hok)).slots t 2)) (hstage0_2 (((cfg0 (adm m hok)).slots t 2).cast nbuf0_2))
    (spec0_3.stage ((cfg0 (adm m hok)).slots t 3)) (hstage0_3 (((cfg0 (adm m hok)).slots t 3).cast nbuf0_3))
    (spec0_4.stage ((cfg0 (adm m hok)).slots t 4)) (hstage0_4 (((cfg0 (adm m hok)).slots t 4).cast nbuf0_4))
    (spec0_5.stage ((cfg0 (adm m hok)).slots t 5)) (hstage0_5 (((cfg0 (adm m hok)).slots t 5).cast nbuf0_5))
    (Memref.whole cc0_scratch0) (Memref.isWhole_whole _) (Memref.whole cc0_scratch1) (Memref.isWhole_whole _) (Memref.whole cc0_scratch2) (Memref.isWhole_whole _)

theorem defs₀_row (t : Fin (cfg0 (adm m hok)).N) :
    defs₀ (F := F) .tc (cfg0 (adm m hok)).body ((cfg0 (adm m hok)).bodyArgs t ((cfg0 (adm m hok)).slots t)) = bodyAt m hok t := by
  unfold defs₀; rw [Defs.onTc_tc]

/-- The tables' half shares, one by one. -/
theorem tables_eq (v : pre0.Contents (Elt F)) (c : Dev nD) : (Pipeline.ΦT pre0 v c : sProp 𝕄)
    = iprop((((c : Thread nD τ).loc main_arg0) ↦{fullShare.right} (v 0)) ∗ (((c : Thread nD τ).loc main_arg1) ↦{fullShare.right} (v 1))) := by
  unfold Pipeline.ΦT Pipeline.prefHeld
  exact bigSep_univ_eq_bigSepL [(0 : Fin 2), (1 : Fin 2)] (by decide) (by decide) _

/-- The experts' table at its shape. -/
def beT : S288.Idx → Elt F .i32 := tab m 0

/-- The count's table at its shape. -/
def nT : S1.Idx → Elt F .i32 := tab m 1

/-- The tables' half shares as the body takes them. -/
theorem tables_owns (c : Dev nD) : (Pipeline.ΦT pre0 (tab m) c : sProp 𝕄)
    = iprop(owns (c : Thread nD τ) (Memref.whole main_arg0) fullShare.right (beT m) ∗ owns (c : Thread nD τ) (Memref.whole main_arg1) fullShare.right (nT m)) := by
  rw [tables_eq, owns_whole, owns_whole]; rfl

/-- The output window is never idle: a point either computes its rows or stores zeros. -/
theorem idle_5 (i : grid0.Coords) : (cfg0 (adm m hok)).idle 5 i = false := by
  show (!(k0_cond2 i ((tab m).atD 1 ![0]) == 1#1) && !(k0_cond3 i ((tab m).atD 1 ![0]) == 1#1)) = false
  by_cases h : k0_cond3 i ((tab m).atD 1 ![0]) = 1#1
  · rw [h]; simp
  · rw [cond_or i _ h]; simp

/-- What the body is called with at a point: the invariant and the six staging buffers. -/
def bodyPre (c : Dev nD) (t : Fin (cfg0 (adm m hok)).N) : sProp 𝕄 :=
  iprop((dats m hok 0 c).Φ t.castSucc ∗ (dats m hok 0 c).owesAt () t.castSucc
    ∗ (∃ d, owns (c : Thread nD τ) (st m hok 0 t) fullShare ((dats m hok 0 c).before 0 t d)) ∗ (∃ d, owns (c : Thread nD τ) (st m hok 1 t) fullShare ((dats m hok 0 c).before 1 t d)) ∗ (∃ d, owns (c : Thread nD τ) (st m hok 2 t) fullShare ((dats m hok 0 c).before 2 t d)) ∗ (∃ d, owns (c : Thread nD τ) (st m hok 3 t) fullShare ((dats m hok 0 c).before 3 t d)) ∗ (∃ d, owns (c : Thread nD τ) (st m hok 4 t) fullShare ((dats m hok 0 c).before 4 t d)) ∗ (∃ d, owns (c : Thread nD τ) (st m hok 5 t) fullShare ((dats m hok 0 c).before 5 t d)))

/-- What it returns. -/
def bodyPost (c : Dev nD) (t : Fin (cfg0 (adm m hok)).N) : sProp 𝕄 :=
  iprop((dats m hok 0 c).Φ t.succ ∗ (dats m hok 0 c).owesAt () t.succ
    ∗ owns (c : Thread nD τ) (st m hok 0 t) fullShare ((dats m hok 0 c).after 0 t) ∗ owns (c : Thread nD τ) (st m hok 1 t) fullShare ((dats m hok 0 c).after 1 t) ∗ owns (c : Thread nD τ) (st m hok 2 t) fullShare ((dats m hok 0 c).after 2 t) ∗ owns (c : Thread nD τ) (st m hok 3 t) fullShare ((dats m hok 0 c).after 3 t) ∗ owns (c : Thread nD τ) (st m hok 4 t) fullShare ((dats m hok 0 c).after 4 t) ∗ owns (c : Thread nD τ) (st m hok 5 t) fullShare ((dats m hok 0 c).after 5 t))

/-- The scratch weights before a point that does not fetch its expert anew are already its expert's. -/
theorem kept (c : Dev nD) (t : Fin (cfg0 (adm m hok)).N) (f1 : S1024x2048.Idx → Elt F .bf16) (f2 : S1024x1024.Idx → Elt F .bf16)
    (h1 : ∀ t' : Fin (cfg0 (adm m hok)).N, t'.val + 1 = t.val → f1 = wGu (iblk m hok c 1 t'))
    (h2 : ∀ t' : Fin (cfg0 (adm m hok)).N, t'.val + 1 = t.val → f2 = wDn (iblk m hok c 3 t'))
    (hf : ¬ fresh (grid0.coords t) (eAt (grid0.coords t) (tab m 0)) (eBefore (grid0.coords t) (tab m 0)) = 1#1) :
    f1 = wGu (iblk m hok c 1 t) ∧ f2 = wDn (iblk m hok c 3 t) := by
  have h0 : t.val ≠ 0 := fun h => hf (fresh_zero t h _ _)
  obtain ⟨t', ht'⟩ : ∃ t' : Fin grid0.N, t'.val + 1 = t.val :=
    ⟨⟨t.val - 1, Nat.lt_of_le_of_lt (Nat.sub_le _ _) t.isLt⟩, by show t.val - 1 + 1 = t.val; omega⟩
  have he := (eq_of_not_fresh _ _ _ hf).trans (eBefore_eq t t' ht' _)
  exact ⟨(h1 t' ht').trans (congrArg wGu (iblk_1_congr m hok c t' t he.symm)),
    (h2 t' ht').trans (congrArg wDn (iblk_3_congr m hok c t' t he.symm))⟩

set_option maxHeartbeats 1000000 in
/-- The body meets its obligation at every grid point. -/
theorem sound_body (c : Dev nD) (t : Fin (cfg0 (adm m hok)).N) :
    bodyPre m hok c t ⊢ wp frame (wpE (defs₀ (F := F)) Variants.none (c : Thread nD τ) none) Set.univ (bodyAt m hok t) (fun _ => bodyPost m hok c t) := by
  unfold bodyPre bodyPost
  simp only [before_0, before_1, before_2, before_3, before_4]
  rw [show (dats m hok 0 c).owesAt () t.succ = (dats m hok 0 c).owesAt () t.castSucc from rfl,
    after_0, after_1, after_2, after_3, after_4, after_5,
    show (dats m hok 0 c).Φ t.castSucc = Φ m hok c t.castSucc from rfl,
    show (dats m hok 0 c).Φ t.succ = Φ m hok c t.succ from rfl]
  unfold Φ
  rw [tables_owns]
  iintro ⟨⟨⟨%f0, Hs0⟩, ⟨%f1, %e1, Hs1⟩, ⟨%f2, %e2, Hs2⟩, Hp, ⟨T0, T1⟩⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ _ _ _ _ _ _
    (beT m) (nT m) (iblk m hok c 0 t) (iblk m hok c 1 t) (iblk m hok c 2 t) (iblk m hok c 3 t) (iblk m hok c 4 t)
    f1 f2 (kept m hok c t f1 f2 e1 e2) _)
  isplitl [H0 H1 H2 H3 H4 H5 Hs0 Hs1 Hs2 T0 T1]
  · isplitl [T0]; · iexact T0
    isplitl [T1]; · iexact T1
    isplitl [H0]; · iexact H0
    isplitl [H1]; · iexact H1
    isplitl [H2]; · iexact H2
    isplitl [H3]; · iexact H3
    isplitl [H4]; · iexact H4
    isplitl [H5]; · (iexists _; iexact H5)
    isplitl [Hs0]; · (iexists f0; rw [owns_whole]; iexact Hs0)
    isplitl [Hs1]; · (rw [owns_whole]; iexact Hs1)
    rw [owns_whole]; iexact Hs2
  · iintro ⟨T0, T1, H0, H1, H2, H3, H4, H5, ⟨%ds, Hs0⟩, Hs1, Hs2⟩
    isplitl [Hs0 Hs1 Hs2 Hp T0 T1]
    · isplitl [Hs0]; · (iexists ds; rw [← owns_whole]; iexact Hs0)
      isplitl [Hs1]
      · iexists (wGu (iblk m hok c 1 t))
        isplitr
        · ipureintro
          intro t' ht'
          rw [show t' = t from Fin.ext (Nat.succ.inj ht')]
        · rw [← owns_whole]; iexact Hs1
      isplitl [Hs2]
      · iexists (wDn (iblk m hok c 3 t))
        isplitr
        · ipureintro
          intro t' ht'
          rw [show t' = t from Fin.ext (Nat.succ.inj ht')]
        · rw [← owns_whole]; iexact Hs2
      isplitl [Hp]; · iexact Hp
      isplitl [T0]; · iexact T0
      iexact T1
    isplitl [Ho]; · iexact Ho
    isplitl [H0]; · iexact H0
    isplitl [H1]; · iexact H1
    isplitl [H2]; · iexact H2
    isplitl [H3]; · iexact H3
    isplitl [H4]; · iexact H4
    iexact H5

theorem body_obligation (c : Dev nD) : BodyObligation (dats (F := F) m hok 0 c) (defs₀ (F := F)) Variants.none () Set.univ := fun t => by
  rw [bigSep_W0, bigSep_W0, defs₀_row]
  dsimp only
  rw [show idle0 (tab m) 5 ((pcfg0.gridAt (tab m)).coords t) = false from idle_5 m hok _]
  exact triple_restated (sound_body m hok c t) rfl .rfl fun _ => .rfl

set_option backward.isDefEq.respectTransparency.types false in
/-- The run of the whole program from any memory whose tables keep every block inside its array: every semaphore ends at
    zero, and every array of the grid ends at what the proof data say. -/
theorem run_main : θ_run defs (onTc (τ := τ) (main (F := F))) (s₀ m ρ)
    (fun r => Pipeline.FramePost (Pipeline.pin (pcfgs (F := F)) fun _ => adm m hok) (dats m hok) 0 (V m) r ∧ r.2.sem = fun _ => 0) :=
  Pipeline.θ_run_frameP_track (pcfgs (F := F)) (fun _ => adm m hok) (dats m hok) (0 : Fin 1) launch0 defs₀ Variants.none m ρ main
    (hbody := fun c => (body_obligation m hok c).loose) (hshare := fun c => (dats m hok 0 c).share_full fun _ => rfl)
    (howed := fun _ _ => rfl) (V := V m) (hmain := Pipeline.hmainP_region _ _ _ _ m main fun _ => rfl) (hA := A_eq m hok)
    (hpf := fun c k => by rw [Subsingleton.elim c 0]; rfl)
    (hin := fun c => by
      show _ ⊢ Φ m hok c 0
      unfold Φ Pipeline.ΦA
      rw [scopedRest0_eq]
      iintro ⟨⟨⟨⟨%f0, Hs0⟩, ⟨%f1, Hs1⟩, ⟨%f2, Hs2⟩⟩, Hp⟩, HT⟩
      isplitl [Hs0]; · (iexists f0; iexact Hs0)
      isplitl [Hs1]
      · iexists f1
        isplitr
        · ipureintro; intro t ht; exact absurd ht (Nat.succ_ne_zero _)
        · iexact Hs1
      isplitl [Hs2]
      · iexists f2
        isplitr
        · ipureintro; intro t ht; exact absurd ht (Nat.succ_ne_zero _)
        · iexact Hs2
      isplitl [Hp]; · iexact Hp
      iexact HT)
    (hout := fun c => by
      show Φ m hok c _ ⊢ _
      unfold Φ Pipeline.ΦA
      rw [scopedRest0_eq]
      iintro ⟨⟨%f0, Hs0⟩, ⟨%f1, %e1, Hs1⟩, ⟨%f2, %e2, Hs2⟩, Hp, HT⟩
      isplitl [Hs0 Hs1 Hs2]
      · isplitl [Hs0]; · (iexists f0; iexact Hs0)
        isplitl [Hs1]; · (iexists f1; iexact Hs1)
        iexists f2; iexact Hs2
      · iexact Hp)
    (Q' := fun r => Pipeline.FramePost (Pipeline.pin (pcfgs (F := F)) fun _ => adm m hok) (dats m hok) 0 (V m) r ∧ r.2.sem = fun _ => 0) (hQ' := fun _ h => h)

/-- What the program leaves: the result array holds what the grid's proof data say, the seven arguments are as they were,
    and every semaphore is at zero. -/
theorem run_post : θ_run defs (onTc (τ := τ) (main (F := F))) (s₀ m ρ)
    (fun r => (∀ c : Dev nD,
      r.2.mem ((c.tc : Thread nD τ).loc main_v0) = (dats m hok 0 c).arrAt 5 (cfg0 (adm m hok)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 5,
      ((h.1 c).2 main_arg0 (Pipeline.mem_restRefs_of main_arg0 (by decide) (by show ∀ w : Fin 6, (spec0 w).arr.view.ref ≠ main_arg0; decide))),
      ((h.1 c).2 main_arg1 (Pipeline.mem_restRefs_of main_arg1 (by decide) (by show ∀ w : Fin 6, (spec0 w).arr.view.ref ≠ main_arg1; decide))),
      ((h.1 c).1 0).trans (((dats m hok 0 c).arrAt_in 0 rfl _).trans (A_eq m hok c 0)),
      ((h.1 c).1 1).trans (((dats m hok 0 c).arrAt_in 1 rfl _).trans (A_eq m hok c 1)),
      ((h.1 c).1 2).trans (((dats m hok 0 c).arrAt_in 2 rfl _).trans (A_eq m hok c 2)),
      ((h.1 c).1 3).trans (((dats m hok 0 c).arrAt_in 3 rfl _).trans (A_eq m hok c 3)),
      ((h.1 c).1 4).trans (((dats m hok 0 c).arrAt_in 4 rfl _).trans (A_eq m hok c 4))⟩, h.2⟩)
    (run_main m ρ hok)

end Cert.Proof.Experts

end
-- ==== Proof.Routed.lean ====
/-
  What the precondition says of the routing: every block's expert is one of the 32, and at least one block is in use.
-/
module

public import proofs.«01_k».proof.Defs
public import proofs.«01_k».proof.Proof.Gen.Pre_routed
public import Idealize.ShloMosaic.Lib.ReduceAll
public import Idealize.ShloMosaic.Lib.Pointwise

@[expose] public section

noncomputable section

namespace Cert.Proof.Routed

open Idealize.ShloMosaic Cert.Pre_routed Cert.Pre_routed.Gen

/-- Two single bits whose `and` is set are both set. -/
theorem both {a b : S_.Idx → BitVec 1} (i : S_.Idx) (h : andi a b i = 1#1) : a i = 1#1 ∧ b i = 1#1 := by
  have h' : a i &&& b i = 1#1 := h
  generalize a i = p at h' ⊢
  generalize b i = q at h' ⊢
  revert p q
  decide

theorem of_bool {b : Bool} (h : BitVec.ofBool b = 1#1) : b = true := by
  cases b
  · exact absurd h (by decide)
  · rfl

/-- A word not below zero and below 32 is one of the first 32. -/
theorem small {w : BitVec 32} (h0 : BitVec.ofBool ((0#32).sle w) = 1#1) (h1 : BitVec.ofBool (w.slt 32#32) = 1#1) : w.toNat < 32 := by
  have h0' := BitVec.sle_iff_toInt_le.mp (of_bool h0)
  have h1' := BitVec.slt_iff_toInt_lt.mp (of_bool h1)
  have e0 : (0#32).toInt = 0 := by decide
  have e1 : (32#32).toInt = 32 := by decide
  rw [e0] at h0'; rw [e1] at h1'
  rw [BitVec.toInt_eq_toNat_cond] at h0' h1'
  split at h0' <;> omega

variable {F : FTy → Type} [FloatOps F]
variable (e : IVec S288 32) (n : IVec S1 32) (xs : FVec F S1179648x128 .f32) (wgu : FVec F S32x1024x2048 .f32) (bgu : FVec F S32x1x2048 .f32)
  (wdn : FVec F S32x1024x1024 .f32) (bdn : FVec F S32x1x1024 .f32)

theorem routed (h : fn (F := F) e n xs wgu bgu wdn bdn = fun _ => 1#1) :
    (∀ i, (e i).toNat < 32) ∧ (∀ i, 1 ≤ (n i).toInt) := by
  haveI : Subsingleton S_.Idx := ⟨fun a b => funext fun i => i.elim0⟩
  have e := congrFun h (fun i => i.elim0)
  unfold fn at e
  obtain ⟨e, e3⟩ := both _ e
  obtain ⟨e1, e2⟩ := both _ e
  refine ⟨fun i => small (Host.reduce_andi_all _ _ _ _ _ e1 i) (Host.reduce_andi_all _ _ _ _ _ e2 i), fun i => ?_⟩
  have h3 : BitVec.ofBool ((1#32).sle (n i)) = 1#1 := Host.reduce_andi_all _ _ _ _ _ e3 i
  have := BitVec.sle_iff_toInt_le.mp (of_bool h3)
  have e1 : (1#32).toInt = 1 := by decide
  rwa [e1] at this

/-- The block of rows a point reads: its own, or the last in use. -/
theorem block_le (i : ℕ) (hi : i < 288) (n : BitVec 32) (hn : 1 ≤ n.toInt) :
    (Scalar.minsi (BitVec.ofNat 32 i) (Scalar.subi n 1#32)).toNat ≤ 287 := by
  have hb := BitVec.isLt n
  have ei : (BitVec.ofNat 32 i).toNat = i := by rw [BitVec.toNat_ofNat]; omega
  have hi' : (BitVec.ofNat 32 i).toInt = i := by rw [BitVec.toInt_eq_toNat_cond, ei]; split <;> omega
  have hnn : n.toInt = n.toNat := by
    rw [BitVec.toInt_eq_toNat_cond] at hn ⊢; split at hn <;> split <;> omega
  have hs : (n - 1#32).toNat = n.toNat - 1 := by
    rw [BitVec.toNat_sub]; show (2 ^ 32 - 1 + n.toNat) % 2 ^ 32 = _; omega
  have hs' : (n - 1#32).toInt = ((n.toNat - 1 : ℕ) : ℤ) := by
    rw [BitVec.toInt_eq_toNat_cond] at hnn ⊢; rw [hs]; split at hnn <;> split <;> omega
  show (if (BitVec.ofNat 32 i).slt (n - 1#32) then BitVec.ofNat 32 i else n - 1#32).toNat ≤ 287
  split
  · rw [ei]; omega
  · next h =>
    rw [BitVec.slt_iff_toInt_lt, hi', hs'] at h
    rw [hs]; omega

/-- A point below the count of blocks in use reads its own block of rows. -/
theorem block_eq (i : ℕ) (hi : i < 288) (n : BitVec 32) (hn : 1 ≤ n.toInt) (h : (BitVec.ofNat 32 i).slt n = true) :
    (Scalar.minsi (BitVec.ofNat 32 i) (Scalar.subi n 1#32)).toNat = i := by
  have hb := BitVec.isLt n
  have ei : (BitVec.ofNat 32 i).toNat = i := by rw [BitVec.toNat_ofNat]; omega
  have hi' : (BitVec.ofNat 32 i).toInt = i := by rw [BitVec.toInt_eq_toNat_cond, ei]; split <;> omega
  have hnn : n.toInt = n.toNat := by
    rw [BitVec.toInt_eq_toNat_cond] at hn ⊢; split at hn <;> split <;> omega
  have hs : (n - 1#32).toNat = n.toNat - 1 := by
    rw [BitVec.toNat_sub]; show (2 ^ 32 - 1 + n.toNat) % 2 ^ 32 = _; omega
  have hs' : (n - 1#32).toInt = ((n.toNat - 1 : ℕ) : ℤ) := by
    rw [BitVec.toInt_eq_toNat_cond] at hnn ⊢; rw [hs]; split at hnn <;> split <;> omega
  rw [BitVec.slt_iff_toInt_lt, hi', hnn] at h
  show (if (BitVec.ofNat 32 i).slt (n - 1#32) then BitVec.ofNat 32 i else n - 1#32).toNat = i
  split
  · exact ei
  · next h' =>
    rw [BitVec.slt_iff_toInt_lt, hi', hs'] at h'
    rw [hs]; omega

end Cert.Proof.Routed

end
-- ==== Proof.ExpertsOk.lean ====
/-
  Routed blocks keep every block of the experts' kernel inside its array.
-/
module

public import proofs.«01_k».proof.Proof.ExpertsRun
public import proofs.«01_k».proof.Proof.Routed

@[expose] public section

set_option maxRecDepth 16384

noncomputable section

namespace Cert.Proof.Experts

open Cert.Kernel2Ideal Cert.Kernel2Ideal.Gen
open Idealize.ShloMosaic Idealize.ShloMosaic.TcCoe

variable {F : FTy → Type} [FloatOps F]

/-- The expert of a point is a word of the experts' table. -/
theorem eAt_mem (i : grid0.Coords) (x : S288.Idx → Elt F .i32) (h : ∀ j, (x j : BitVec 32).toNat < 32) : (eAt i x).toNat < 32 := h _

/-- Experts among the 32 and a count of at least one keep every block inside its array. -/
theorem ok_of (pf : pre0.Contents (Elt F)) (he : ∀ j : S288.Idx, ((pf 0 : S288.Idx → BitVec 32) j).toNat < 32)
    (hn : ∀ j : S1.Idx, 1 ≤ ((pf 1 : S1.Idx → BitVec 32) j).toInt) : ok0 pf := by
  have hE : ∀ i : grid0.Coords, (eAt i (pf 0 : S288.Idx → BitVec 32) : BitVec 32).toNat < 32 := fun i => he _
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inl rfl⟩⟩
  · match a with
    | 0 =>
      have h := Routed.block_le (i 0).val (i 0).isLt (nAt (F := F) (pf 1 : S1.Idx → BitVec 32)) (hn _)
      show ((Scalar.minsi (BitVec.ofNat 32 (i 0).val) (Scalar.subi (nAt (F := F) (pf 1 : S1.Idx → BitVec 32)) 1#32)).toNat + 1) * 4096 ≤ 1179648
      omega
    | 1 => show (0 + 1) * 128 ≤ 128; omega
  · have h := hE i
    match a with
    | 0 => show ((eAt i (pf 0 : S288.Idx → BitVec 32) : BitVec 32).toNat + 1) * 1 ≤ 32; omega
    | 1 => show (0 + 1) * 1024 ≤ 1024; omega
    | 2 => show (0 + 1) * 2048 ≤ 2048; omega
  · have h := hE i
    match a with
    | 0 => show ((eAt i (pf 0 : S288.Idx → BitVec 32) : BitVec 32).toNat + 1) * 1 ≤ 32; omega
    | 1 => show (0 + 1) * 1 ≤ 1; omega
    | 2 => show (0 + 1) * 2048 ≤ 2048; omega
  · have h := hE i
    match a with
    | 0 => show ((eAt i (pf 0 : S288.Idx → BitVec 32) : BitVec 32).toNat + 1) * 1 ≤ 32; omega
    | 1 => show (0 + 1) * 1024 ≤ 1024; omega
    | 2 => show (0 + 1) * 1024 ≤ 1024; omega
  · have h := hE i
    match a with
    | 0 => show ((eAt i (pf 0 : S288.Idx → BitVec 32) : BitVec 32).toNat + 1) * 1 ≤ 32; omega
    | 1 => show (0 + 1) * 1 ≤ 1; omega
    | 2 => show (0 + 1) * 1024 ≤ 1024; omega

end Cert.Proof.Experts

end
-- ==== Proof.ExpertsPrintedOk.lean ====
/-
  Routed blocks keep every block of the experts' kernel inside its array.
-/
module

public import proofs.«01_k».proof.Proof.ExpertsPrintedRun
public import proofs.«01_k».proof.Proof.Routed

@[expose] public section

set_option maxRecDepth 16384

noncomputable section

namespace Cert.Proof.ExpertsPrinted

open Cert.Kernel2 Cert.Kernel2.Gen
open Idealize.ShloMosaic Idealize.ShloMosaic.TcCoe

variable {F : FTy → Type} [FloatOps F]

/-- The expert of a point is a word of the experts' table. -/
theorem eAt_mem (i : grid0.Coords) (x : S288.Idx → Elt F .i32) (h : ∀ j, (x j : BitVec 32).toNat < 32) : (eAt i x).toNat < 32 := h _

/-- Experts among the 32 and a count of at least one keep every block inside its array. -/
theorem ok_of (pf : pre0.Contents (Elt F)) (he : ∀ j : S288.Idx, ((pf 0 : S288.Idx → BitVec 32) j).toNat < 32)
    (hn : ∀ j : S1.Idx, 1 ≤ ((pf 1 : S1.Idx → BitVec 32) j).toInt) : ok0 pf := by
  have hE : ∀ i : grid0.Coords, (eAt i (pf 0 : S288.Idx → BitVec 32) : BitVec 32).toNat < 32 := fun i => he _
  refine ⟨fun i => ⟨fun a => ?_, .inl rfl⟩, fun i => ⟨fun a => ?_, .inl rfl⟩, fun i => ⟨fun a => ?_, .inl rfl⟩, fun i => ⟨fun a => ?_, .inl rfl⟩,
    fun i => ⟨fun a => ?_, .inl rfl⟩⟩
  · match a with
    | 0 =>
      have h := Routed.block_le (i 0).val (i 0).isLt (nAt (F := F) (pf 1 : S1.Idx → BitVec 32)) (hn _)
      show ((Scalar.minsi (BitVec.ofNat 32 (i 0).val) (Scalar.subi (nAt (F := F) (pf 1 : S1.Idx → BitVec 32)) 1#32)).toNat + 1) * 4096 ≤ 1179648
      omega
    | 1 => show (0 + 1) * 128 ≤ 128; omega
  · have h := hE i
    match a with
    | 0 => show ((eAt i (pf 0 : S288.Idx → BitVec 32) : BitVec 32).toNat + 1) * 1 ≤ 32; omega
    | 1 => show (0 + 1) * 1024 ≤ 1024; omega
    | 2 => show (0 + 1) * 2048 ≤ 2048; omega
  · have h := hE i
    match a with
    | 0 => show ((eAt i (pf 0 : S288.Idx → BitVec 32) : BitVec 32).toNat + 1) * 1 ≤ 32; omega
    | 1 => show (0 + 1) * 1 ≤ 1; omega
    | 2 => show (0 + 1) * 2048 ≤ 2048; omega
  · have h := hE i
    match a with
    | 0 => show ((eAt i (pf 0 : S288.Idx → BitVec 32) : BitVec 32).toNat + 1) * 1 ≤ 32; omega
    | 1 => show (0 + 1) * 1024 ≤ 1024; omega
    | 2 => show (0 + 1) * 1024 ≤ 1024; omega
  · have h := hE i
    match a with
    | 0 => show ((eAt i (pf 0 : S288.Idx → BitVec 32) : BitVec 32).toNat + 1) * 1 ≤ 32; omega
    | 1 => show (0 + 1) * 1 ≤ 1; omega
    | 2 => show (0 + 1) * 1024 ≤ 1024; omega

end Cert.Proof.ExpertsPrinted

end
-- ==== Proof.ExpertsFrames.lean ====
/-
  The frames of the experts' call: from routed blocks the printed kernel and its idealization run to the end, leave their
  arguments as they were and every semaphore at zero; the reference does from every memory.
-/
module

public import proofs.«01_k».proof.Defs
public import proofs.«01_k».proof.Proof.ExpertsOk
public import proofs.«01_k».proof.Proof.ExpertsPrintedOk
public import proofs.«01_k».proof.Proof.Gen.Reference2Ideal.Run
public import proofs.«01_k».proof.Proof.Gen.Pre_routed
public import Idealize.ShloMosaic.Lib.Quiescent

@[expose] public section

noncomputable section

namespace Cert.Proof.ExpertsFrames

open Idealize.ShloMosaic Idealize.SL.Sem

/-- The experts' kernel as printed, at the bits, from routed blocks: it runs, keeps its arguments, ends quiescent. -/
theorem printed_kernel : Cert.quiescent_Kernel2 := fun m ρ hpre =>
  have H := Routed.routed _ _ _ _ _ _ _ (hpre 0)
  (θ_run Cert.Kernel2.defs _ _).mono (fun _ h => ⟨fun c => (h.1 c).2, h.2⟩)
    (ExpertsPrinted.run_post m ρ (ExpertsPrinted.ok_of (ExpertsPrinted.tab m) H.1 H.2))

/-- The experts' kernel over the extended reals, from routed blocks: the same. -/
theorem ideal_kernel : Cert.quiescent_Kernel2Ideal := fun m ρ hpre =>
  have H := Routed.routed _ _ _ _ _ _ _ (hpre 0)
  (θ_run Cert.Kernel2Ideal.defs _ _).mono (fun _ h => ⟨fun c => (h.1 c).2, h.2⟩)
    (Experts.run_post m ρ (Experts.ok_of (Experts.tab m) H.1 H.2))

/-- The experts' reference over the extended reals: it runs, keeps its arguments, ends quiescent. -/
theorem ideal_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The experts' reference over the extended reals, from routed blocks: the same. -/
theorem ideal_reference_routed : Cert.quiescent_Reference2Ideal_pre_routed := fun m ρ _ =>
  (θ_run Cert.Reference2Ideal.defs _ _).mono (fun r h => ⟨fun c => (h c).2, sem_eq_zero_of_no_sems (by decide) r.2⟩)
    (Cert.Reference2Ideal.Value.run (F := Ideal) m ρ)

/-- The idealization of the experts' kernel names no constant. -/
theorem named : Cert.preserves_Kernel2_Kernel2Ideal := trivial

end Cert.Proof.ExpertsFrames

end
-- ==== Proof.Swiglu.lean ====
/-
  The clamped gated activation of an expert's feed-forward network, over the extended reals.
-/
module

public import Idealize.ShloMosaic.Lib.Pointwise

@[expose] public section

noncomputable section

namespace Cert.Proof.Swiglu

open Idealize.ShloMosaic

/-- The gate, clamped from above. -/
def gateOf (g : EReal) : EReal := min g (Ideal.ofBits .f32 0x40E00000#32)

/-- The up projection, clamped from both sides, plus one. -/
def upOf (u : EReal) : EReal :=
  min (Ideal.ofBits .f32 0x40E00000#32) (max (Ideal.ofBits .f32 0xC0E00000#32) u) + Ideal.ofBits .f32 0x3F800000#32

/-- The activation: the up projection times the gate times the gate's logistic. -/
def act (g u : EReal) : EReal :=
  upOf u * (gateOf g * Ideal.logistic (Ideal.ofBits .f32 0x3FD9DB23#32 * gateOf g))

/-- The word of the number one. -/
theorem one_word : Ideal.ofBits .f32 0x3F800000#32 = 1 := by
  simp [Ideal.ofBits, Ideal.ieee]
  norm_num
  rw [← EReal.coe_mul]
  norm_num

/-- A sum over 1024 hidden units is the sum of its four quarters. -/
theorem sum_quarters (f : Fin 1024 → EReal) : ∑ j, f j
    = ((∑ j : Fin 256, f ⟨j.val, by omega⟩ + ∑ j : Fin 256, f ⟨256 + j.val, by omega⟩) + ∑ j : Fin 256, f ⟨512 + j.val, by omega⟩)
      + ∑ j : Fin 256, f ⟨768 + j.val, by omega⟩ := by
  have h3 := Fin.sum_univ_add (a := 768) (b := 256) f
  have h2 := Fin.sum_univ_add (a := 512) (b := 256) (fun j => f (Fin.castAdd 256 j))
  have h1 := Fin.sum_univ_add (a := 256) (b := 256) (fun j => f (Fin.castAdd 256 (Fin.castAdd 256 j)))
  rw [h3, h2, h1]
  rfl

end Cert.Proof.Swiglu

end
-- ==== Proof.ExpertsRows.lean ====
/-
  One expert's block of rows as the kernel computes it, at an index, over the extended reals: the feed-forward network of
  the block's rows, the four stages of hidden units together.
-/
module

public import proofs.«01_k».proof.Proof.ExpertsBlock
public import proofs.«01_k».proof.Proof.Swiglu

@[expose] public section

set_option maxRecDepth 16384

noncomputable section

namespace Cert.Proof.Experts

open Cert.Kernel2Ideal Cert.Kernel2Ideal.Gen Cert.Proof.Swiglu
open Idealize.ShloMosaic Idealize.ShloMosaic.TcCoe Idealize.ShloMosaic.Tactic
open Idealize.ShloMosaic.View (Piece canon ld)

section Pays

variable (X : Vec Ideal S512x1024 .bf16) (W : Vec Ideal S1024x256 .bf16) (b : Vec Ideal S1x1x256 .f32) (r : Fin 512) (n : Fin 256)

theorem pay17_apply : k0_pay17 (F := Ideal) X W b (ix2 r n) = ∑ x : Fin 1024, X (ix2 r x) * W (ix2 x n) + b (ix3 0 0 n) := by
  pointwise [k0_pay17]
theorem pay18_apply : k0_pay18 (F := Ideal) X W b (ix2 r n) = ∑ x : Fin 1024, X (ix2 r x) * W (ix2 x n) + b (ix3 0 0 n) := pay17_apply X W b r n
theorem pay19_apply : k0_pay19 (F := Ideal) X W b (ix2 r n) = ∑ x : Fin 1024, X (ix2 r x) * W (ix2 x n) + b (ix3 0 0 n) := pay17_apply X W b r n
theorem pay20_apply : k0_pay20 (F := Ideal) X W b (ix2 r n) = ∑ x : Fin 1024, X (ix2 r x) * W (ix2 x n) + b (ix3 0 0 n) := pay17_apply X W b r n
theorem pay22_apply : k0_pay22 (F := Ideal) X W b (ix2 r n) = ∑ x : Fin 1024, X (ix2 r x) * W (ix2 x n) + b (ix3 0 0 n) := pay17_apply X W b r n
theorem pay23_apply : k0_pay23 (F := Ideal) X W b (ix2 r n) = ∑ x : Fin 1024, X (ix2 r x) * W (ix2 x n) + b (ix3 0 0 n) := pay17_apply X W b r n
theorem pay25_apply : k0_pay25 (F := Ideal) X W b (ix2 r n) = ∑ x : Fin 1024, X (ix2 r x) * W (ix2 x n) + b (ix3 0 0 n) := pay17_apply X W b r n
theorem pay26_apply : k0_pay26 (F := Ideal) X W b (ix2 r n) = ∑ x : Fin 1024, X (ix2 r x) * W (ix2 x n) + b (ix3 0 0 n) := pay17_apply X W b r n

end Pays

section Stages

variable (g u : FVec Ideal S512x256 .f32) (w : Vec Ideal S256x1024 .bf16) (r : Fin 512) (c : Fin 1024)

/-- The first stage of 256 hidden units. -/
theorem pay21_apply : k0_pay21 (F := Ideal) g u w (ix2 r c) = ∑ x : Fin 256, act (g (ix2 r x)) (u (ix2 r x)) * w (ix2 x c) := by
  unfold act gateOf upOf
  pointwise [k0_pay21]

/-- The second stage, added. -/
theorem pay24_apply (acc : FVec Ideal S512x1024 .f32) : k0_pay24 (F := Ideal) g u acc (Scalar.ofBits .f32 0x40E00000#32) w (ix2 r c)
    = acc (ix2 r c) + ∑ x : Fin 256, act (g (ix2 r x)) (u (ix2 r x)) * w (ix2 x c) := by
  unfold act gateOf upOf
  pointwise [k0_pay24]

/-- The last two stages and the bias, added. -/
theorem pay29_apply (g' u' : FVec Ideal S512x256 .f32) (w' : Vec Ideal S256x1024 .bf16) (b : Vec Ideal S1x1x1024 .f32) (acc : FVec Ideal S512x1024 .f32) :
    k0_pay29 (F := Ideal) acc g' u' (k0_pay27 g) (k0_pay28 u) w w' b (ix2 r c)
    = ((acc (ix2 r c) + ∑ x : Fin 256, act (g (ix2 r x)) (u (ix2 r x)) * w (ix2 x c)) + ∑ x : Fin 256, act (g' (ix2 r x)) (u' (ix2 r x)) * w' (ix2 x c))
      + b (ix3 0 0 c) := by
  unfold act gateOf upOf
  pointwise [k0_pay29, k0_pay27, k0_pay28]

end Stages

section Reads

theorem ld_gu (x : S1024x2048.Idx → EReal) (o : ℕ) (h : ∀ a, (![0, o] : Fin 2 → ℕ) a + S1024x256.size a ≤ S1024x2048.size a) (ho : o + 256 ≤ 2048) (k : Fin 1024) (n : Fin 256) :
    (ld (Val := Elt Ideal) (e' := .bf16) x (Rect.unit (s := S1024x2048) ![0, o] S1024x256.size h)) (ix2 k n) = x (ix2 k (⟨o + n.val, by omega⟩ : Fin 2048)) := by
  refine congrArg x (funext fun a => Fin.ext ?_)
  match a with
  | 0 => show 0 + 1 * k.val = k.val; omega
  | 1 => show o + 1 * n.val = o + n.val; omega

theorem ld_bgu (x : S1x1x2048.Idx → EReal) (o : ℕ) (h : ∀ a, (![0, 0, o] : Fin 3 → ℕ) a + S1x1x256.size a ≤ S1x1x2048.size a) (ho : o + 256 ≤ 2048) (n : Fin 256) :
    (ld (Val := Elt Ideal) (e' := .f32) x (Rect.unit (s := S1x1x2048) ![0, 0, o] S1x1x256.size h)) (ix3 0 0 n) = x (ix3 0 0 (⟨o + n.val, by omega⟩ : Fin 2048)) := by
  refine congrArg x (funext fun a => Fin.ext ?_)
  match a with
  | 0 => rfl
  | 1 => rfl
  | 2 => show o + 1 * n.val = o + n.val; omega

theorem ld_dn (x : S1024x1024.Idx → EReal) (o : ℕ) (h : ∀ a, (![o, 0] : Fin 2 → ℕ) a + S256x1024.size a ≤ S1024x1024.size a) (ho : o + 256 ≤ 1024) (n : Fin 256) (c : Fin 1024) :
    (ld (Val := Elt Ideal) (e' := .bf16) x (Rect.unit (s := S1024x1024) ![o, 0] S256x1024.size h)) (ix2 n c) = x (ix2 (⟨o + n.val, by omega⟩ : Fin 1024) c) := by
  refine congrArg x (funext fun a => Fin.ext ?_)
  match a with
  | 0 => show o + 1 * n.val = o + n.val; omega
  | 1 => show 0 + 1 * c.val = c.val; omega

theorem ld_bdn (x : S1x1x1024.Idx → EReal) (c : Fin 1024) :
    (ld (Val := Elt Ideal) (e' := .f32) x (Rect.unit (s := S1x1x1024) ![0, 0, 0] S1x1x1024.size inb_S1x1x1024_S1x1x1024_0_0_0)) (ix3 0 0 c) = x (ix3 0 0 c) := by
  refine congrArg x (funext fun a => Fin.ext ?_)
  match a with
  | 0 => rfl
  | 1 => rfl
  | 2 => show 0 + 1 * c.val = c.val; omega

theorem pay1_apply (x : Vec Ideal S1x1024x2048 .f32) (k : Fin 1024) (n : Fin 2048) : k0_pay1 (F := Ideal) x (ix2 k n) = x (ix3 0 k n) := by
  pointwise [k0_pay1]

theorem pay2_apply (x : Vec Ideal S1x1024x1024 .f32) (k : Fin 1024) (n : Fin 1024) : k0_pay2 (F := Ideal) x (ix2 k n) = x (ix3 0 k n) := by
  pointwise [k0_pay2]

theorem wGu_apply (x4 : S1x1024x2048.Idx → EReal) (k : Fin 1024) (n : Fin 2048) : wGu (F := Ideal) x4 (ix2 k n) = x4 (ix3 0 k n) := by
  unfold wGu
  refine (pay1_apply _ k n).trans (congrArg x4 (funext fun a => Fin.ext ?_))
  match a with
  | 0 => rfl
  | 1 => show 0 + 1 * k.val = k.val; omega
  | 2 => show 0 + 1 * n.val = n.val; omega

theorem wDn_apply (x6 : S1x1024x1024.Idx → EReal) (k : Fin 1024) (n : Fin 1024) : wDn (F := Ideal) x6 (ix2 k n) = x6 (ix3 0 k n) := by
  unfold wDn
  refine (pay2_apply _ k n).trans (congrArg x6 (funext fun a => Fin.ext ?_))
  match a with
  | 0 => rfl
  | 1 => show 0 + 1 * k.val = k.val; omega
  | 2 => show 0 + 1 * n.val = n.val; omega

/-- A block of expert rows, read as 512 rows of 1024 columns. -/
def unpacked (x3 : S4096x128.Idx → EReal) : S512x1024.Idx → EReal := fun y =>
  x3 (ix2 (⟨8 * (y 0).val + (y 1).val / 128, by have h0 : (y 0).val < 512 := (y 0).isLt; have h1 : (y 1).val < 1024 := (y 1).isLt; omega⟩ : Fin 4096)
    (⟨(y 1).val % 128, Nat.mod_lt _ (by decide)⟩ : Fin 128))

theorem pay9_eq (v : Vec Ideal S512x128 .f32) (z : S512x128.Idx) : k0_pay9 (F := Ideal) v z = v z := by
  have e : z = ix2 (⟨(z 0).val, (z 0).isLt⟩ : Fin 512) (⟨(z 1).val, (z 1).isLt⟩ : Fin 128) := by
    funext a
    match a with
    | 0 => rfl
    | 1 => rfl
  rw [e]
  generalize (⟨(z 0).val, (z 0).isLt⟩ : Fin 512) = r
  generalize (⟨(z 1).val, (z 1).isLt⟩ : Fin 128) = c
  pointwise [k0_pay9]

/-- The kernel's own assembling of the rows from the eight lane chunks. -/
theorem xBf_apply (x3 : S4096x128.Idx → EReal) (r : Fin 512) (k : Fin 1024) :
    xBf (F := Ideal) x3 (ix2 r k) = x3 (ix2 (⟨8 * r.val + k.val / 128, by omega⟩ : Fin 4096) (⟨k.val % 128, Nat.mod_lt _ (by decide)⟩ : Fin 128)) := by
  have hG : ∀ (j : ℕ) (hj : j < 8) (h : ∀ a, _) (h' : ∀ a, _) (z : S512x128.Idx),
      x3 ((⟨![j, 0], S512x128.size, ![8, 1], h⟩ : LoadRect S4096x128).idx z)
        = unpacked x3 ((Rect.unit (s := S512x1024) ![0, 128 * j] S512x128.size h').emb z) := by
    intro j hj h h' z
    have h0 : (z 0).val < 512 := (z 0).isLt
    have h1 : (z 1).val < 128 := (z 1).isLt
    unfold unpacked
    refine congrArg x3 (funext fun a => Fin.ext ?_)
    match a with
    | 0 => show j + 8 * (z 0).val = 8 * (0 + 1 * (z 0).val) + (128 * j + 1 * (z 1).val) / 128; omega
    | 1 => show 0 + 1 * (z 1).val = (128 * j + 1 * (z 1).val) % 128; omega
  have hcov : ∀ (y : S512x1024.Idx) (j : ℕ) (h' : ∀ a, _), (y 1).val / 128 = j →
      y ∈ (Rect.unit (s := S512x1024) ![0, 128 * j] S512x128.size h').set := by
    intro y j h' hj
    have h0 : (y 0).val < 512 := (y 0).isLt
    have h1 : (y 1).val < 1024 := (y 1).isLt
    rw [LoadRect.mem_set]; intro a
    match a with
    | 0 => exact ⟨(y 0).val, h0, by show (y 0).val = 0 + 1 * (y 0).val; omega⟩
    | 1 => exact ⟨(y 1).val % 128, Nat.mod_lt _ (by decide), by show (y 1).val = 128 * j + 1 * ((y 1).val % 128); omega⟩
  have hall : ∀ y : S512x1024.Idx, ∃ p ∈ (xPieces (F := Ideal) x3), y ∈ p.1.set := by
    intro y
    have h1 : (y 1).val < 1024 := (y 1).isLt
    obtain h | h | h | h | h | h | h | h : (y 1).val / 128 = 7 ∨ (y 1).val / 128 = 6 ∨ (y 1).val / 128 = 5 ∨ (y 1).val / 128 = 4 ∨ (y 1).val / 128 = 3
        ∨ (y 1).val / 128 = 2 ∨ (y 1).val / 128 = 1 ∨ (y 1).val / 128 = 0 := by omega
    · exact ⟨_, .head _, hcov y 7 inb_S512x1024_S512x128_0_896 h⟩
    · exact ⟨_, .tail _ (.head _), hcov y 6 inb_S512x1024_S512x128_0_768 h⟩
    · exact ⟨_, .tail _ (.tail _ (.head _)), hcov y 5 inb_S512x1024_S512x128_0_640 h⟩
    · exact ⟨_, .tail _ (.tail _ (.tail _ (.head _))), hcov y 4 inb_S512x1024_S512x128_0_512 h⟩
    · exact ⟨_, .tail _ (.tail _ (.tail _ (.tail _ (.head _)))), hcov y 3 inb_S512x1024_S512x128_0_384 h⟩
    · exact ⟨_, .tail _ (.tail _ (.tail _ (.tail _ (.tail _ (.head _))))), hcov y 2 inb_S512x1024_S512x128_0_256 h⟩
    · exact ⟨_, .tail _ (.tail _ (.tail _ (.tail _ (.tail _ (.tail _ (.head _)))))), hcov y 1 inb_S512x1024_S512x128_0_128 h⟩
    · exact ⟨_, .tail _ (.tail _ (.tail _ (.tail _ (.tail _ (.tail _ (.tail _ (.head _))))))), hcov y 0 inb_S512x1024_S512x128_0_0 h⟩
  have hc : canon (xPieces (F := Ideal) x3) = unpacked x3 := by
    funext y
    refine View.canon_apply_of_pieces (unpacked x3) _ ?_ y (hall y)
    intro p hp
    unfold xPieces at hp
    simp only [List.mem_cons, List.not_mem_nil, _root_.or_false] at hp
    obtain rfl | rfl | rfl | rfl | rfl | rfl | rfl | rfl := hp
    · exact fun z => (pay9_eq (fun z => x3 ((⟨![7, 0], S512x128.size, ![8, 1], inb_S4096x128_S512x128_7_0_s_8_1⟩ : LoadRect S4096x128).idx z)) z).trans
        (hG 7 (by decide) inb_S4096x128_S512x128_7_0_s_8_1 inb_S512x1024_S512x128_0_896 z)
    · exact fun z => (pay9_eq (fun z => x3 ((⟨![6, 0], S512x128.size, ![8, 1], inb_S4096x128_S512x128_6_0_s_8_1⟩ : LoadRect S4096x128).idx z)) z).trans
        (hG 6 (by decide) inb_S4096x128_S512x128_6_0_s_8_1 inb_S512x1024_S512x128_0_768 z)
    · exact fun z => (pay9_eq (fun z => x3 ((⟨![5, 0], S512x128.size, ![8, 1], inb_S4096x128_S512x128_5_0_s_8_1⟩ : LoadRect S4096x128).idx z)) z).trans
        (hG 5 (by decide) inb_S4096x128_S512x128_5_0_s_8_1 inb_S512x1024_S512x128_0_640 z)
    · exact fun z => (pay9_eq (fun z => x3 ((⟨![4, 0], S512x128.size, ![8, 1], inb_S4096x128_S512x128_4_0_s_8_1⟩ : LoadRect S4096x128).idx z)) z).trans
        (hG 4 (by decide) inb_S4096x128_S512x128_4_0_s_8_1 inb_S512x1024_S512x128_0_512 z)
    · exact fun z => (pay9_eq (fun z => x3 ((⟨![3, 0], S512x128.size, ![8, 1], inb_S4096x128_S512x128_3_0_s_8_1⟩ : LoadRect S4096x128).idx z)) z).trans
        (hG 3 (by decide) inb_S4096x128_S512x128_3_0_s_8_1 inb_S512x1024_S512x128_0_384 z)
    · exact fun z => (pay9_eq (fun z => x3 ((⟨![2, 0], S512x128.size, ![8, 1], inb_S4096x128_S512x128_2_0_s_8_1⟩ : LoadRect S4096x128).idx z)) z).trans
        (hG 2 (by decide) inb_S4096x128_S512x128_2_0_s_8_1 inb_S512x1024_S512x128_0_256 z)
    · exact fun z => (pay9_eq (fun z => x3 ((⟨![1, 0], S512x128.size, ![8, 1], inb_S4096x128_S512x128_1_0_s_8_1⟩ : LoadRect S4096x128).idx z)) z).trans
        (hG 1 (by decide) inb_S4096x128_S512x128_1_0_s_8_1 inb_S512x1024_S512x128_0_128 z)
    · exact fun z => (pay9_eq (fun z => x3 ((⟨![0, 0], S512x128.size, ![8, 1], inb_S4096x128_S512x128_0_0_s_8_1⟩ : LoadRect S4096x128).idx z)) z).trans
        (hG 0 (by decide) inb_S4096x128_S512x128_0_0_s_8_1 inb_S512x1024_S512x128_0_0 z)
  unfold xBf
  rw [hc]
  unfold unpacked
  refine congrArg x3 (funext fun a => Fin.ext ?_)
  match a with
  | 0 => show 8 * (0 + 1 * r.val) + (0 + 1 * k.val) / 128 = 8 * r.val + k.val / 128; omega
  | 1 => show (0 + 1 * k.val) % 128 = k.val % 128; omega

end Reads

section Rows

variable (x3 : S4096x128.Idx → EReal) (x4 : S1x1024x2048.Idx → EReal) (x5 : S1x1x2048.Idx → EReal) (x6 : S1x1024x1024.Idx → EReal) (x7 : S1x1x1024.Idx → EReal)

/-- The hidden units before the activation: the gates first, then the up projections. -/
def hid (r : Fin 512) (n : Fin 2048) : EReal :=
  ∑ k : Fin 1024, x3 (ix2 (⟨8 * r.val + k.val / 128, by omega⟩ : Fin 4096) (⟨k.val % 128, Nat.mod_lt _ (by decide)⟩ : Fin 128)) * x4 (ix3 0 k n) + x5 (ix3 0 0 n)

theorem stage_hid (o : ℕ) (h) (h') (ho : o + 256 ≤ 2048) (r : Fin 512) (n : Fin 256) :
    ∑ x : Fin 1024, xBf (F := Ideal) x3 (ix2 r x)
        * (ld (Val := Elt Ideal) (e' := .bf16) (wGu (F := Ideal) x4) (Rect.unit (s := S1024x2048) ![0, o] S1024x256.size h)) (ix2 x n)
      + (ld (Val := Elt Ideal) (e' := .f32) x5 (Rect.unit (s := S1x1x2048) ![0, 0, o] S1x1x256.size h')) (ix3 0 0 n)
    = hid x3 x4 x5 r ⟨o + n.val, by omega⟩ := by
  unfold hid
  refine congrArg₂ (· + ·) (Finset.sum_congr rfl fun x _ => congrArg₂ (· * ·) (xBf_apply x3 r x) ?_) (ld_bgu x5 o h' ho n)
  exact (ld_gu (wGu (F := Ideal) x4) o h ho x n).trans (wGu_apply x4 x _)

theorem stage_dn (o : ℕ) (h) (ho : o + 256 ≤ 1024) (n : Fin 256) (c : Fin 1024) :
    (ld (Val := Elt Ideal) (e' := .bf16) (wDn (F := Ideal) x6) (Rect.unit (s := S1024x1024) ![o, 0] S256x1024.size h)) (ix2 n c)
      = x6 (ix3 0 (⟨o + n.val, by omega⟩ : Fin 1024) c) :=
  (ld_dn (wDn (F := Ideal) x6) o h ho n c).trans (wDn_apply x6 _ c)

/-- The feed-forward network of a row, at a column. -/
theorem rows_apply (r : Fin 512) (c : Fin 1024) : rows (F := Ideal) x3 (wGu x4) x5 (wDn x6) x7 (ix2 r c)
    = ∑ j : Fin 1024, act (hid x3 x4 x5 r ⟨j.val, by omega⟩) (hid x3 x4 x5 r ⟨1024 + j.val, by omega⟩) * x6 (ix3 0 j c) + x7 (ix3 0 0 c) := by
  unfold rows
  rw [pay29_apply, pay24_apply, pay21_apply, sum_quarters, ld_bdn]
  simp only [pay17_apply, pay18_apply, pay19_apply, pay20_apply, pay22_apply, pay23_apply, pay25_apply, pay26_apply]
  refine congrArg (· + x7 (ix3 0 0 c)) (congrArg₂ (· + ·) (congrArg₂ (· + ·) (congrArg₂ (· + ·) ?_ ?_) ?_) ?_)
  · refine Finset.sum_congr rfl fun n _ => congrArg₂ (· * ·) (congrArg₂ act ?_ ?_) ?_
    · exact (stage_hid x3 x4 x5 0 _ _ (by omega) r n).trans (congrArg (hid x3 x4 x5 r) (Fin.ext (by show 0 + n.val = n.val; omega)))
    · exact stage_hid x3 x4 x5 1024 _ _ (by omega) r n
    · exact (stage_dn x6 0 _ (by omega) n c).trans (congrArg (fun j => x6 (ix3 0 j c)) (Fin.ext (by show 0 + n.val = n.val; omega)))
  · refine Finset.sum_congr rfl fun n _ => congrArg₂ (· * ·) (congrArg₂ act ?_ ?_) ?_
    · exact stage_hid x3 x4 x5 256 _ _ (by omega) r n
    · exact (stage_hid x3 x4 x5 1280 _ _ (by omega) r n).trans (congrArg (hid x3 x4 x5 r) (Fin.ext (by show 1280 + n.val = 1024 + (256 + n.val); omega)))
    · exact stage_dn x6 256 _ (by omega) n c
  · refine Finset.sum_congr rfl fun n _ => congrArg₂ (· * ·) (congrArg₂ act ?_ ?_) ?_
    · exact stage_hid x3 x4 x5 512 _ _ (by omega) r n
    · exact (stage_hid x3 x4 x5 1536 _ _ (by omega) r n).trans (congrArg (hid x3 x4 x5 r) (Fin.ext (by show 1536 + n.val = 1024 + (512 + n.val); omega)))
    · exact stage_dn x6 512 _ (by omega) n c
  · refine Finset.sum_congr rfl fun n _ => congrArg₂ (· * ·) (congrArg₂ act ?_ ?_) ?_
    · exact stage_hid x3 x4 x5 768 _ _ (by omega) r n
    · exact (stage_hid x3 x4 x5 1792 _ _ (by omega) r n).trans (congrArg (hid x3 x4 x5 r) (Fin.ext (by show 1792 + n.val = 1024 + (768 + n.val); omega)))
    · exact stage_dn x6 768 _ (by omega) n c

end Rows

end Cert.Proof.Experts

end
-- ==== Proof.ExpertsRef.lean ====
/-
  The experts' reference at an index, over the extended reals: each row through the feed-forward network of its block's
  expert, rows past the blocks in use zero.
-/
module

public import proofs.«01_k».proof.Proof.Gen.Reference2Ideal.Run
public import proofs.«01_k».proof.Proof.Swiglu
public import Idealize.ShloMosaic.Lib.Pointwise

@[expose] public section

set_option maxRecDepth 16384

noncomputable section

namespace Cert.Proof.ExpertsRef

open Cert.Reference2Ideal Cert.Reference2Ideal.Gen Cert.Proof.Swiglu
open Idealize.ShloMosaic Idealize.ShloMosaic.TcCoe Idealize.SL.Sem

section Gather
variable {α : Type} {N R A B w : ℕ}

/-- Dimension numbers that take slabs along the first axis: operand `[N, A, B]`, start indices `[R, 1]`, result
    `[R, A, B]`. -/
abbrev slabDims (N R A B : ℕ) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- A taken slab at an index: the operand's slab at the start index, read signed and clamped. -/
theorem gather_slab_apply (hN : 0 < N) (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (slabDims N R A B wf) x idx (ix3 r a b) = x (ix3 ⟨min (idx (ix2 r 0)).toInt.toNat (N - 1), by omega⟩ a b) := by
  unfold Host.gather
  congr 1
  funext d
  refine Fin.ext ?_
  show (slabDims N R A B wf).start (ix3 r a b) idx d + (slabDims N R A B wf).batchCoord (ix3 r a b) d
      + (slabDims N R A B wf).offCoord (ix3 r a b) d = _
  have h012 : d = 0 ∨ d = 1 ∨ d = 2 := by
    match d with
    | ⟨0, _⟩ => exact Or.inl rfl
    | ⟨1, _⟩ => exact Or.inr (Or.inl rfl)
    | ⟨2, _⟩ => exact Or.inr (Or.inr rfl)
  rw [GatherDims.batchCoord_eq_zero _ _ _ List.not_mem_nil]
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N R A B wf).startIndexMap from List.mem_singleton.mpr rfl)]
    have hsi : (slabDims N R A B wf).siIdx (ix3 r a b) ⟨List.idxOf (0 : Fin 3) (slabDims N R A B wf).startIndexMap,
        List.idxOf_lt_length_iff.2 (List.mem_singleton.mpr rfl)⟩ = ix2 r 0 := by
      funext k; refine Fin.ext ?_
      match k with
      | ⟨0, _⟩ => rfl
      | ⟨1, _⟩ => rfl
    rw [hsi]
    rfl
  · unfold GatherDims.start
    rw [dif_neg (show (1 : Fin 3) ∉ (slabDims N R A B wf).startIndexMap from by simp)]
    simp only [Nat.zero_add]
    rfl
  · unfold GatherDims.start
    rw [dif_neg (show (2 : Fin 3) ∉ (slabDims N R A B wf).startIndexMap from by simp)]
    simp only [Nat.zero_add]
    rfl

end Gather

/-- The expert of each row: its block's, 512 rows to a block. -/
def expertOf (e : IVec S288 32) : IVec S147456 32 := shapeCast _ (broadcastInDim S288x512 ![0] bcast_S288_S288x512_0 e) shapeCasts_S288x512_S147456

/-- The same as a column of indices, one counted from the end turned into one from the front. -/
def slabOf (e : IVec S288 32) : IVec S147456x1 32 :=
  broadcastInDim S147456x1 ![0] bcast_S147456_S147456x1_0 (select (cmpi .slt (expertOf e) (broadcastInDim S147456 ![] bcast_S_S147456 (constantI S_ 32 0#32))) (addi (expertOf e) (broadcastInDim S147456 ![] bcast_S_S147456 (constantI S_ 32 32#32))) (expertOf e))

/-- The gate and up weights of each row. -/
def wguOf (w : FVec Ideal S32x1024x2048 .f32) (i : IVec S147456x1 32) : FVec Ideal S147456x1024x2048 .f32 :=
  Host.gather gather_S32x1024x2048_S147456x1_S147456x1024x2048_12_0_n_n_0_1_110242048 w i

/-- The gate and up biases of each row. -/
def bguOf (b : FVec Ideal S32x1x2048 .f32) (i : IVec S147456x1 32) : FVec Ideal S147456x1x2048 .f32 :=
  Host.gather gather_S32x1x2048_S147456x1_S147456x1x2048_12_0_n_n_0_1_112048 b i

/-- The down weights of each row. -/
def wdnOf (w : FVec Ideal S32x1024x1024 .f32) (i : IVec S147456x1 32) : FVec Ideal S147456x1024x1024 .f32 :=
  Host.gather gather_S32x1024x1024_S147456x1_S147456x1024x1024_12_0_n_n_0_1_110241024 w i

/-- The down biases of each row. -/
def bdnOf (b : FVec Ideal S32x1x1024 .f32) (i : IVec S147456x1 32) : FVec Ideal S147456x1x1024 .f32 :=
  Host.gather gather_S32x1x1024_S147456x1_S147456x1x1024_12_0_n_n_0_1_111024 b i

/-- The hidden units before the activation. -/
def hidden (xs : FVec Ideal S1179648x128 .f32) (w : FVec Ideal S147456x1024x2048 .f32) (b : FVec Ideal S147456x1x2048 .f32) : FVec Ideal S147456x2048 .f32 :=
  addf (Host.dotGeneral dot_S147456x1024_S147456x1024x2048_S147456x2048_1_1_n_2_0_0 none (shapeCast _ xs shapeCasts_S1179648x128_S147456x1024) w) (shapeCast _ b shapeCasts_S147456x1x2048_S147456x2048)

/-- The clamped gates. -/
def gates (h : FVec Ideal S147456x2048 .f32) : FVec Ideal S147456x1024 .f32 :=
  minimumf (extractStridedSlice S147456x1024 ![0, 0] h slices_S147456x2048_S147456x1024_0_0) (broadcastInDim S147456x1024 ![] bcast_S_S147456x1024 (constant S_ .f32 0x40E00000#32))

/-- The clamped up projections, plus one. -/
def ups (h : FVec Ideal S147456x2048 .f32) : FVec Ideal S147456x1024 .f32 :=
  addf (minimumf (broadcastInDim S147456x1024 ![] bcast_S_S147456x1024 (id (constant S_ .f32 0x40E00000#32))) (maximumf (broadcastInDim S147456x1024 ![] bcast_S_S147456x1024 (id (constant S_ .f32 0xC0E00000#32))) (extractStridedSlice S147456x1024 ![0, 1024] h slices_S147456x2048_S147456x1024_0_1024))) (broadcastInDim S147456x1024 ![] bcast_S_S147456x1024 (constant S_ .f32 0x3F800000#32))

/-- The logistic of the gates, times 1.702. -/
def sigm (g : FVec Ideal S147456x1024 .f32) : FVec Ideal S147456x1024 .f32 :=
  Host.divf (broadcastInDim S147456x1024 ![] bcast_S_S147456x1024 (constant S_ .f32 0x3F800000#32)) (addf (broadcastInDim S147456x1024 ![] bcast_S_S147456x1024 (constant S_ .f32 0x3F800000#32)) (Host.exp (Host.negf (mulf (broadcastInDim S147456x1024 ![] bcast_S_S147456x1024 (constant S_ .f32 0x3FD9DB23#32)) g))))

/-- The activations. -/
def acts (h : FVec Ideal S147456x2048 .f32) : FVec Ideal S147456x1024 .f32 := mulf (ups h) (mulf (gates h) (sigm (gates h)))

/-- The rows of the result. -/
def result (a : FVec Ideal S147456x1024 .f32) (w : FVec Ideal S147456x1024x1024 .f32) (b : FVec Ideal S147456x1x1024 .f32) : FVec Ideal S147456x1024 .f32 :=
  addf (Host.dotGeneral dot_S147456x1024_S147456x1024x1024_S147456x1024_1_1_n_2_0_0 none a w) (shapeCast _ b shapeCasts_S147456x1x1024_S147456x1024)

/-- Whether a row's block is in use. -/
def inUse (n : IVec S1 32) : IVec S147456 1 :=
  cmpi .slt (shapeCast _ (broadcastInDim S288x512 ![0] bcast_S288_S288x512_0 (iotaInDim S288 32 0)) shapeCasts_S288x512_S147456) (broadcastInDim S147456 ![] bcast_S_S147456 (shapeCast _ n shapeCasts_S1_S_))

/-- The rows of the blocks in use, the others zero, eight rows of 128 columns to each. -/
def kept (u : IVec S147456 1) (y : FVec Ideal S147456x1024 .f32) : FVec Ideal S1179648x128 .f32 :=
  shapeCast _ (select (broadcastInDim S147456x1024 ![0, 1] bcast_S147456x1_S147456x1024_0_1 (broadcastInDim S147456x1 ![0] bcast_S147456_S147456x1_0 u)) y (broadcastInDim S147456x1024 ![] bcast_S_S147456x1024 (id (constant S_ .f32 0x00000000#32)))) shapeCasts_S147456x1024_S1179648x128

/-- The whole result, as a function of the arguments. -/
def target (e : IVec S288 32) (n : IVec S1 32) (xs : FVec Ideal S1179648x128 .f32) (wgu : FVec Ideal S32x1024x2048 .f32) (bgu : FVec Ideal S32x1x2048 .f32)
    (wdn : FVec Ideal S32x1024x1024 .f32) (bdn : FVec Ideal S32x1x1024 .f32) : FVec Ideal S1179648x128 .f32 :=
  kept (inUse n) (result (acts (hidden xs (wguOf wgu (slabOf e)) (bguOf bgu (slabOf e)))) (wdnOf wdn (slabOf e)) (bdnOf bdn (slabOf e)))

theorem result_eq (m : (ℓ : Loc nD τ sig) → Buf (Elt Ideal) ℓ) (c : Dev nD) :
    Cert.Reference2Ideal.Value.res_out0 m c = target (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Cert.Reference2Ideal.Value.res_out0 Cert.Reference2Ideal.Value.res_main_v62
  rfl

theorem expertOf_apply (e : IVec S288 32) (r : Fin 147456) : expertOf e (ix1 r) = e (ix1 ⟨r.val / 512, by omega⟩) := by
  pointwise [expertOf]

theorem slabOf_apply (e : IVec S288 32) (r : Fin 147456) : slabOf e (ix2 r 0)
    = Scalar.select (IntOp.cmpi .slt (expertOf e (ix1 r)) 0#32) (IntOp.addi (expertOf e (ix1 r)) 32#32) (expertOf e (ix1 r)) := by
  unfold slabOf
  generalize expertOf e = x
  pointwise []

/-- An expert among the 32 is its own index. -/
theorem slab_val (e : IVec S288 32) (he : ∀ i, (e i).toNat < 32) (r : Fin 147456) :
    (slabOf e (ix2 r 0)).toInt.toNat = (e (ix1 ⟨r.val / 512, by omega⟩)).toNat := by
  rw [slabOf_apply, expertOf_apply]
  have h := he (ix1 ⟨r.val / 512, by omega⟩)
  generalize e (ix1 ⟨r.val / 512, by omega⟩) = w at h ⊢
  have hi : w.toInt = w.toNat := by rw [BitVec.toInt_eq_toNat_cond]; split <;> omega
  have hc : IntOp.cmpi .slt w 0#32 = 0#1 := by
    show BitVec.ofBool (w.slt 0#32) = 0#1
    have : w.slt 0#32 = false := by
      rw [Bool.eq_false_iff]
      intro hh
      rw [BitVec.slt_iff_toInt_lt, hi] at hh
      have : (0#32).toInt = 0 := by decide
      omega
    rw [this]; rfl
  rw [hc]
  show w.toInt.toNat = _
  rw [hi]; rfl

variable (i : IVec S147456x1 32) (r : Fin 147456)

/-- The slab a row takes. -/
def slab : Fin 32 := ⟨min (i (ix2 r 0)).toInt.toNat 31, by omega⟩

theorem wguOf_apply (w : FVec Ideal S32x1024x2048 .f32) (k : Fin 1024) (n : Fin 2048) : wguOf w i (ix3 r k n) = w (ix3 (slab i r) k n) :=
  gather_slab_apply (by decide) _ w i r k n
theorem bguOf_apply (w : FVec Ideal S32x1x2048 .f32) (n : Fin 2048) : bguOf w i (ix3 r 0 n) = w (ix3 (slab i r) 0 n) :=
  gather_slab_apply (by decide) _ w i r 0 n
theorem wdnOf_apply (w : FVec Ideal S32x1024x1024 .f32) (k : Fin 1024) (n : Fin 1024) : wdnOf w i (ix3 r k n) = w (ix3 (slab i r) k n) :=
  gather_slab_apply (by decide) _ w i r k n
theorem bdnOf_apply (w : FVec Ideal S32x1x1024 .f32) (n : Fin 1024) : bdnOf w i (ix3 r 0 n) = w (ix3 (slab i r) 0 n) :=
  gather_slab_apply (by decide) _ w i r 0 n

theorem hidden_apply (xs) (w) (b) (n : Fin 2048) : hidden xs w b (ix2 r n)
    = ∑ k : Fin 1024, xs (ix2 ⟨r.val * 8 + k.val / 128, by omega⟩ ⟨k.val % 128, by omega⟩) * w (ix3 r k n) + b (ix3 r 0 n) := by
  pointwise [hidden]

theorem gates_apply (h) (j : Fin 1024) : gates h (ix2 r j) = gateOf (h (ix2 r ⟨j.val, by omega⟩)) := by
  unfold gateOf
  pointwise [gates]

theorem ups_apply (h) (j : Fin 1024) : ups h (ix2 r j) = upOf (h (ix2 r ⟨1024 + j.val, by omega⟩)) := by
  unfold upOf
  pointwise [ups]
  rfl

theorem sigm_apply (g) (j : Fin 1024) : sigm g (ix2 r j) = Ideal.logistic (Ideal.ofBits .f32 0x3FD9DB23#32 * g (ix2 r j)) := by
  unfold Ideal.logistic
  rw [← one_word]
  pointwise [sigm]

theorem acts_apply (h) (j : Fin 1024) : acts h (ix2 r j) = act (h (ix2 r ⟨j.val, by omega⟩)) (h (ix2 r ⟨1024 + j.val, by omega⟩)) := by
  unfold act
  rw [← gates_apply, ← ups_apply, ← sigm_apply]
  rfl

theorem result_apply (a) (w) (b) (c : Fin 1024) : result a w b (ix2 r c) = ∑ j : Fin 1024, a (ix2 r j) * w (ix3 r j c) + b (ix3 r 0 c) := by
  pointwise [result]

theorem inUse_apply (n : IVec S1 32) : inUse n (ix1 r) = IntOp.cmpi .slt (BitVec.ofNat 32 (r.val / 512)) (n (ix1 0)) := by
  pointwise [inUse]

theorem kept_apply (u) (y) (p : Fin 1179648) (l : Fin 128) : kept u y (ix2 p l)
    = Scalar.select (u (ix1 ⟨p.val / 8, by omega⟩)) (y (ix2 ⟨p.val / 8, by omega⟩ ⟨p.val % 8 * 128 + l.val, by omega⟩)) (id (constant (F := Ideal) S_ .f32 0x00000000#32) ix0) := by
  pointwise [kept]

end Cert.Proof.ExpertsRef

end
-- ==== Proof.ExpertsValue.lean ====
/-
  The experts' kernel computes what the reference computes, over the extended reals, from routed blocks.
-/
module

public import proofs.«01_k».proof.Proof.ExpertsOk
public import proofs.«01_k».proof.Proof.ExpertsRows
public import proofs.«01_k».proof.Proof.ExpertsRef

@[expose] public section

set_option maxRecDepth 16384

noncomputable section

namespace Cert.Proof.Experts

open Cert.Kernel2Ideal Cert.Kernel2Ideal.Gen
open Idealize.ShloMosaic Idealize.ShloMosaic.TcCoe Idealize.SL.Sem Idealize.ShloMosaic.Tactic
open Idealize.ShloMosaic.Pipeline (Dat Cfg Window)

variable (m : (ℓ : Loc nD τ sig) → Buf (Elt Ideal) ℓ) (hok : ok0 (tab m)) (c : Dev nD)

/-- The call's arguments. -/
def argE : IVec S288 32 := m (c, Proc.tc.devRef main_arg0)
def argN : IVec S1 32 := m (c, Proc.tc.devRef main_arg1)
def argX : FVec Ideal S1179648x128 .f32 := m (c, Proc.tc.devRef main_arg2)
def argWGu : FVec Ideal S32x1024x2048 .f32 := m (c, Proc.tc.devRef main_arg3)
def argBGu : FVec Ideal S32x1x2048 .f32 := m (c, Proc.tc.devRef main_arg4)
def argWDn : FVec Ideal S32x1024x1024 .f32 := m (c, Proc.tc.devRef main_arg5)
def argBDn : FVec Ideal S32x1x1024 .f32 := m (c, Proc.tc.devRef main_arg6)

/-- The expert of a grid point is the table's word at the point's number. -/
theorem eAt_apply (t : Fin grid0.N) (x : S288.Idx → BitVec 32) : eAt (F := Ideal) (grid0.coords t) x = x (ix1 (⟨t.val, t.isLt⟩ : Fin 288)) := by
  unfold eAt View.ld
  refine congrArg x (funext fun a => Fin.ext ?_)
  have h := congrFun (off1_val t) a
  match a with
  | 0 =>
    show k0_off1 (grid0.coords t) 0 + 1 * 0 = t.val
    rw [off1_val t]; rfl

/-- The count of blocks in use is the table's one word. -/
theorem nAt_apply (x : S1.Idx → BitVec 32) : nAt (F := Ideal) x = x (ix1 0) := by
  unfold nAt View.ld
  refine congrArg x (funext (α := Fin 1) fun a => Fin.ext ?_)
  match a with
  | 0 => rfl

/-- The expert of a point. -/
def eOf (t : Fin grid0.N) : ℕ := (eAt (F := Ideal) (grid0.coords t) (tab m 0 : S288.Idx → BitVec 32) : BitVec 32).toNat

/-- The number of blocks in use, as the points read it. -/
def nOf : BitVec 32 := nAt (F := Ideal) (tab m 1 : S1.Idx → BitVec 32)

/-- The block of rows a point reads. -/
def xOf (t : Fin grid0.N) : ℕ :=
  (Scalar.minsi (BitVec.ofNat 32 (grid0.coords t 0).val) (Scalar.subi (nOf m) 1#32)).toNat

theorem index_0 (t : Fin (cfg0 (adm m hok)).N) : ((cfg0 (adm m hok)).win 0).index t = ![xOf m t, 0] := rfl
theorem index_1 (t : Fin (cfg0 (adm m hok)).N) : ((cfg0 (adm m hok)).win 1).index t = ![eOf m t, 0, 0] := rfl
theorem index_2 (t : Fin (cfg0 (adm m hok)).N) : ((cfg0 (adm m hok)).win 2).index t = ![eOf m t, 0, 0] := rfl
theorem index_3 (t : Fin (cfg0 (adm m hok)).N) : ((cfg0 (adm m hok)).win 3).index t = ![eOf m t, 0, 0] := rfl
theorem index_4 (t : Fin (cfg0 (adm m hok)).N) : ((cfg0 (adm m hok)).win 4).index t = ![eOf m t, 0, 0] := rfl
theorem index_5 (t : Fin (cfg0 (adm m hok)).N) : ((cfg0 (adm m hok)).win 5).index t = ![t.val, 0] := by
  show (![(BitVec.ofNat 32 (grid0.coords t 0).val).toNat, 0] : Fin 2 → ℕ) = _
  rw [coords_val t, BitVec.toNat_ofNat]
  have h : t.val < 288 := t.isLt
  rw [Nat.mod_eq_of_lt (by omega)]

variable (t : Fin (cfg0 (adm m hok)).N)

/-- The block of rows. -/
def b0 : S4096x128.Idx → EReal := iblk m hok c 0 t
def b1 : S1x1024x2048.Idx → EReal := iblk m hok c 1 t
def b2 : S1x1x2048.Idx → EReal := iblk m hok c 2 t
def b3 : S1x1024x1024.Idx → EReal := iblk m hok c 3 t
def b4 : S1x1x1024.Idx → EReal := iblk m hok c 4 t

theorem b0_apply (B : ℕ) (hB : B < 288) (e : xOf m t = B) (p : Fin 4096) (l : Fin 128) :
    b0 m hok c t (ix2 p l) = argX m c (ix2 (⟨4096 * B + p.val, by omega⟩ : Fin 1179648) l) := by
  unfold b0 iblk
  refine congrArg (argX m c) (funext (α := Fin 2) fun a => Fin.ext ?_)
  match a with
  | 0 => show xOf m t * 4096 + 1 * p.val = 4096 * B + p.val; rw [e]; omega
  | 1 => show 0 * 128 + 1 * l.val = l.val; omega

theorem b1_apply (B : Fin 32) (e : eOf m t = B.val) (k : Fin 1024) (n : Fin 2048) :
    b1 m hok c t (ix3 0 k n) = argWGu m c (ix3 B k n) := by
  unfold b1 iblk
  refine congrArg (argWGu m c) (funext (α := Fin 3) fun a => Fin.ext ?_)
  match a with
  | 0 => show eOf m t * 1 + 1 * 0 = B.val; rw [e]; omega
  | 1 => show 0 * 1024 + 1 * k.val = k.val; omega
  | 2 => show 0 * 2048 + 1 * n.val = n.val; omega

theorem b2_apply (B : Fin 32) (e : eOf m t = B.val) (n : Fin 2048) :
    b2 m hok c t (ix3 0 0 n) = argBGu m c (ix3 B 0 n) := by
  unfold b2 iblk
  refine congrArg (argBGu m c) (funext (α := Fin 3) fun a => Fin.ext ?_)
  match a with
  | 0 => show eOf m t * 1 + 1 * 0 = B.val; rw [e]; omega
  | 1 => rfl
  | 2 => show 0 * 2048 + 1 * n.val = n.val; omega

theorem b3_apply (B : Fin 32) (e : eOf m t = B.val) (k : Fin 1024) (n : Fin 1024) :
    b3 m hok c t (ix3 0 k n) = argWDn m c (ix3 B k n) := by
  unfold b3 iblk
  refine congrArg (argWDn m c) (funext (α := Fin 3) fun a => Fin.ext ?_)
  match a with
  | 0 => show eOf m t * 1 + 1 * 0 = B.val; rw [e]; omega
  | 1 => show 0 * 1024 + 1 * k.val = k.val; omega
  | 2 => show 0 * 1024 + 1 * n.val = n.val; omega

theorem b4_apply (B : Fin 32) (e : eOf m t = B.val) (n : Fin 1024) :
    b4 m hok c t (ix3 0 0 n) = argBDn m c (ix3 B 0 n) := by
  unfold b4 iblk
  refine congrArg (argBDn m c) (funext (α := Fin 3) fun a => Fin.ext ?_)
  match a with
  | 0 => show eOf m t * 1 + 1 * 0 = B.val; rw [e]; omega
  | 1 => rfl
  | 2 => show 0 * 1024 + 1 * n.val = n.val; omega

/-- The reference's result, of the kernel's arguments. -/
def goal : FVec Ideal S1179648x128 .f32 :=
  ExpertsRef.target (argE m c) (argN m c) (argX m c) (argWGu m c) (argBGu m c) (argWDn m c) (argBDn m c)

/-- A point of the grid computes rows exactly if it is below the count. -/
theorem cond3_iff (n : BitVec 32) : (k0_cond3 (grid0.coords t) n = 1#1) ↔ ¬ (BitVec.ofNat 32 t.val).slt n = true := by
  unfold k0_cond3
  dsimp only
  rw [coords_val t]
  generalize BitVec.ofNat 32 t.val = w
  have hcmp : ∀ b : Bool, Scalar.cmpi .ne (Scalar.extui (BitVec.ofBool b) : BitVec 32) 0#32 = BitVec.ofBool b := by decide
  have h3 : Scalar.cmpi .sge w n = BitVec.ofBool (n.sle w) := rfl
  rw [h3, hcmp]
  have : w.slt n = !(n.sle w) := by rw [BitVec.sle_eq_not_slt]; simp
  rw [this]
  cases n.sle w <;> simp

/-- One block of the result is the reference's. -/
theorem block_eq (he : ∀ i, (argE m c i).toNat < 32) (hn : ∀ i, 1 ≤ (argN m c i).toInt) (p : Fin 4096) (l : Fin 128) :
    outBlk (F := Ideal) (grid0.coords t) (nOf m) (b0 m hok c t) (b1 m hok c t) (b2 m hok c t) (b3 m hok c t) (b4 m hok c t) (ix2 p l)
      = goal m c (ix2 (⟨4096 * t.val + p.val, by have h : t.val < 288 := t.isLt; omega⟩ : Fin 1179648) l) := by
  have ht : t.val < 288 := t.isLt
  have c0 : c = 0 := Subsingleton.elim _ _
  have hN : nOf m = argN m c (ix1 0) := (nAt_apply _).trans (by rw [c0]; rfl)
  have hE : eOf m t = (argE m c (ix1 (⟨t.val, ht⟩ : Fin 288))).toNat :=
    congrArg BitVec.toNat ((eAt_apply t _).trans (by rw [c0]; rfl))
  unfold goal ExpertsRef.target
  rw [ExpertsRef.kept_apply, ExpertsRef.inUse_apply]
  have hd : (4096 * t.val + p.val) / 8 / 512 = t.val := by omega
  simp only [hd]
  have hc : IntOp.cmpi .slt (BitVec.ofNat 32 t.val) (argN m c (ix1 0)) = BitVec.ofBool ((BitVec.ofNat 32 t.val).slt (argN m c (ix1 0))) := rfl
  rw [hc]
  unfold outBlk
  rw [hN]
  by_cases h : (BitVec.ofNat 32 t.val).slt (argN m c (ix1 0)) = true
  · rw [if_neg (fun h3 => (cond3_iff m hok t _).mp h3 h), h]
    have hX : xOf m t = t.val := by
      unfold xOf
      rw [hN, coords_val t]
      exact Routed.block_eq t.val ht _ (hn _) h
    have hB : eOf m t = (⟨eOf m t, hE ▸ he _⟩ : Fin 32).val := rfl
    generalize (⟨eOf m t, hE ▸ he _⟩ : Fin 32) = B at hB
    have hs : ∀ r : Fin 147456, r.val / 512 = t.val → ExpertsRef.slab (ExpertsRef.slabOf (argE m c)) r = B := by
      intro r hr
      refine Fin.ext ?_
      unfold ExpertsRef.slab
      show min (ExpertsRef.slabOf (argE m c) (ix2 r 0)).toInt.toNat 31 = B.val
      rw [ExpertsRef.slab_val _ he, ← hB, hE]
      simp only [hr]
      have := he (ix1 (⟨t.val, ht⟩ : Fin 288))
      omega
    show rowsBlk (F := Ideal) (b0 m hok c t) (wGu (b1 m hok c t)) (b2 m hok c t) (wDn (b3 m hok c t)) (b4 m hok c t) (ix2 p l) = ExpertsRef.result _ _ _ _
    have hr : (4096 * t.val + p.val) / 8 < 147456 := by omega
    have hs' := hs ⟨(4096 * t.val + p.val) / 8, hr⟩ hd
    rw [ExpertsRef.result_apply]
    unfold rowsBlk placed
    have hq : (fun a => match a with
        | 0 => ⟨((ix2 p l : S4096x128.Idx) 0).val / 8, by have h : p.val < 4096 := p.isLt; show p.val / 8 < 512; omega⟩
        | 1 => ⟨128 * (((ix2 p l : S4096x128.Idx) 0).val % 8) + ((ix2 p l : S4096x128.Idx) 1).val, by have h : l.val < 128 := l.isLt; show 128 * (p.val % 8) + l.val < 1024; omega⟩ : S512x1024.Idx)
      = ix2 (⟨p.val / 8, by omega⟩ : Fin 512) (⟨(4096 * t.val + p.val) % 8 * 128 + l.val, by omega⟩ : Fin 1024) := by
      funext a
      refine Fin.ext ?_
      match a with
      | 0 => rfl
      | 1 => show 128 * (p.val % 8) + l.val = (4096 * t.val + p.val) % 8 * 128 + l.val; omega
    refine (congrArg (rows (F := Ideal) (b0 m hok c t) (wGu (b1 m hok c t)) (b2 m hok c t) (wDn (b3 m hok c t)) (b4 m hok c t)) hq).trans ?_
    rw [rows_apply, b4_apply m hok c t B hB, ExpertsRef.bdnOf_apply, hs']
    have hh : ∀ n : Fin 2048, hid (b0 m hok c t) (b1 m hok c t) (b2 m hok c t) (⟨p.val / 8, by omega⟩ : Fin 512) n
        = ExpertsRef.hidden (argX m c) (ExpertsRef.wguOf (argWGu m c) (ExpertsRef.slabOf (argE m c))) (ExpertsRef.bguOf (argBGu m c) (ExpertsRef.slabOf (argE m c)))
            (ix2 ⟨(4096 * t.val + p.val) / 8, hr⟩ n) := by
      intro n
      unfold hid
      rw [ExpertsRef.hidden_apply, b2_apply m hok c t B hB, ExpertsRef.bguOf_apply, hs']
      refine congrArg (· + argBGu m c (ix3 B 0 n)) (Finset.sum_congr rfl fun k _ => ?_)
      rw [b0_apply m hok c t t.val ht hX, b1_apply m hok c t B hB, ExpertsRef.wguOf_apply, hs']
      refine congrArg (· * argWGu m c (ix3 B k n)) (congrArg (argX m c) (funext fun a => Fin.ext ?_))
      match a with
      | 0 => show 4096 * t.val + (8 * (p.val / 8) + k.val / 128) = (4096 * t.val + p.val) / 8 * 8 + k.val / 128; omega
      | 1 => rfl
    refine congrArg (· + argBDn m c (ix3 B 0 _)) (Finset.sum_congr rfl fun j _ => ?_)
    rw [b3_apply m hok c t B hB, ExpertsRef.wdnOf_apply, hs', ExpertsRef.acts_apply, hh, hh]
  · rw [if_pos ((cond3_iff m hok t _).mpr h), Bool.eq_false_iff.mpr h]
    rfl

/-- Where a position of a result's block lies in the result. -/
theorem emb_5 (y : S4096x128.Idx) : (((cfg0 (adm m hok)).win 5).blk t).view.emb y
    = ix2 (⟨4096 * t.val + (y 0).val, by have h : t.val < 288 := t.isLt; have h' : (y 0).val < 4096 := (y 0).isLt; omega⟩ : Fin 1179648) (⟨(y 1).val, (y 1).isLt⟩ : Fin 128) := by
  have h5 := congrFun (index_5 m hok t) (0 : Fin 2)
  have e : ∀ a : Fin 2, ((((cfg0 (adm m hok)).win 5).blk t).view.emb y a).val = (ix2 (⟨4096 * t.val + (y 0).val, by have h : t.val < 288 := t.isLt; have h' : (y 0).val < 4096 := (y 0).isLt; omega⟩ : Fin 1179648) (⟨(y 1).val, (y 1).isLt⟩ : Fin 128) a).val := by
    intro a
    match a with
    | 0 =>
      show ((cfg0 (adm m hok)).win 5).index t (0 : Fin 2) * 4096 + 1 * (y 0).val = 4096 * t.val + (y 0).val
      rw [h5]
      show t.val * 4096 + 1 * (y 0).val = _
      omega
    | 1 => show 0 * 128 + 1 * (y 1).val = (y 1).val; omega
  exact funext (α := Fin 2) fun a => Fin.ext (e a)

/-- What a point leaves in its block of the result is the reference's result there. -/
theorem at_block (he : ∀ i, (argE m c i).toNat < 32) (hn : ∀ i, 1 ≤ (argN m c i).toInt) (y : S4096x128.Idx) :
    (dats m hok 0 c).after 5 t y = goal m c ((((cfg0 (adm m hok)).win 5).blk t).view.emb y) := by
  have ey : y = ix2 (⟨(y 0).val, (y 0).isLt⟩ : Fin 4096) (⟨(y 1).val, (y 1).isLt⟩ : Fin 128) := by
    refine funext (α := Fin 2) fun a => ?_
    match a with
    | 0 => rfl
    | 1 => rfl
  refine Eq.trans ?_ (congrArg (goal m c) (emb_5 m hok t y).symm)
  refine Eq.trans ?_ (block_eq m hok c t he hn _ _)
  refine (congrFun (after_5 m hok c t) y).trans ?_
  exact congrArg (outBlk (F := Ideal) (grid0.coords t) (nOf m) (b0 m hok c t) (b1 m hok c t) (b2 m hok c t) (b3 m hok c t) (b4 m hok c t)) ey

/-- The kernel's result is the reference's. -/
theorem out_eq (he : ∀ i, (argE m c i).toNat < 32) (hn : ∀ i, 1 ≤ (argN m c i).toInt) :
    (dats m hok 0 c).arrAt 5 (cfg0 (adm m hok)).N = goal m c := by
  have hflush : ∀ t, ((cfg0 (adm m hok)).win 5).flush t = true := by
    intro t
    unfold Window.flush
    have ho : ((cfg0 (adm m hok)).win 5).isOut = true := rfl
    rw [ho, Bool.true_and, Bool.or_eq_true, decide_eq_true_eq, decide_eq_true_eq]
    by_cases h : t.val + 1 = (cfg0 (adm m hok)).grid.N
    · exact .inl h
    · refine .inr ⟨by have := t.isLt; omega, fun e => ?_⟩
      rw [index_5, index_5] at e
      have := congrFun e 0
      exact absurd (show t.val + 1 = t.val from this) (by omega)
  have hpos : ∀ a : Fin 2, 0 < ((cfg0 (adm m hok)).win 5).size a := by
    intro a
    match a with
    | 0 => show 0 < 4096; decide
    | 1 => show 0 < 128; decide
  have hn0 : ((cfg0 (adm m hok)).win 5).nblk (0 : Fin 2) = 288 := by
    show (1179648 + 4096 - 1) / 4096 = 288; decide
  have hn1 : ((cfg0 (adm m hok)).win 5).nblk (1 : Fin 2) = 1 := by
    show (128 + 128 - 1) / 128 = 1; decide
  have hcov : ((cfg0 (adm m hok)).win 5).Covers := by
    refine ⟨hpos, fun β => ?_⟩
    have h0 : (β (0 : Fin 2)).val < 288 := lt_of_lt_of_eq (β (0 : Fin 2)).isLt hn0
    have h1 : (β (1 : Fin 2)).val < 1 := lt_of_lt_of_eq (β (1 : Fin 2)).isLt hn1
    have hix : ∀ a : Fin 2, ((cfg0 (adm m hok)).win 5).index (⟨(β (0 : Fin 2)).val, h0⟩ : Fin (cfg0 (adm m hok)).N) a = (β a).val := by
      intro a
      rw [index_5]
      match a with
      | 0 => rfl
      | 1 => show 0 = (β (1 : Fin 2)).val; omega
    exact ⟨⟨(β (0 : Fin 2)).val, h0⟩, hflush _, fun a => ⟨hix a, .inl rfl⟩⟩
  exact (dats m hok 0 c).arrAt_eq_of_covers 5 _ hcov fun t _ y => at_block m hok c t he hn y

/-- From routed blocks, the kernel ends with the reference's result, and both keep their arguments. -/
theorem algebraic : Cert.algebraic_Kernel2Ideal_Reference2Ideal := by
  intro m g m' g' hpre hargs
  have H : ∀ c : Dev nD, (∀ i, (argE m c i).toNat < 32) ∧ (∀ i, 1 ≤ (argN m c i).toInt) := fun c => Routed.routed _ _ _ _ _ _ _ (hpre c)
  have hok : ok0 (tab m) := ok_of (tab m) (H 0).1 (H 0).2
  refine ⟨fun c => goal m c, (θ_run Cert.Kernel2Ideal.defs _ _).mono
    (fun _ h c => ⟨((h.1 c).1).trans (out_eq m hok c (H c).1 (H c).2), (h.1 c).2⟩) (run_post m g hok), ?_⟩
  refine (θ_run Cert.Reference2Ideal.defs _ _).mono (fun _ h c => ⟨(h c).1.trans ?_, (h c).2⟩)
    (Cert.Reference2Ideal.Value.run (F := Ideal) m' g')
  obtain ⟨h0, h1, h2, h3, h4, h5, h6⟩ := hargs c
  refine (ExpertsRef.result_eq m' c).trans ?_
  unfold goal argE argN argX argWGu argBGu argWDn argBDn
  have e0 : m' (c, Proc.tc.devRef Cert.Reference2Ideal.main_arg0) = m (c, Proc.tc.devRef main_arg0) := h0
  have e1 : m' (c, Proc.tc.devRef Cert.Reference2Ideal.main_arg1) = m (c, Proc.tc.devRef main_arg1) := h1
  have e2 : m' (c, Proc.tc.devRef Cert.Reference2Ideal.main_arg2) = m (c, Proc.tc.devRef main_arg2) := h2
  have e3 : m' (c, Proc.tc.devRef Cert.Reference2Ideal.main_arg3) = m (c, Proc.tc.devRef main_arg3) := h3
  have e4 : m' (c, Proc.tc.devRef Cert.Reference2Ideal.main_arg4) = m (c, Proc.tc.devRef main_arg4) := h4
  have e5 : m' (c, Proc.tc.devRef Cert.Reference2Ideal.main_arg5) = m (c, Proc.tc.devRef main_arg5) := h5
  have e6 : m' (c, Proc.tc.devRef Cert.Reference2Ideal.main_arg6) = m (c, Proc.tc.devRef main_arg6) := h6
  rw [e0, e1, e2, e3, e4, e5, e6]

end Cert.Proof.Experts

end
-- ==== Proof.lean ====
module

public import proofs.«01_k».proof.Defs
public import proofs.«01_k».proof.Proof.Frames
public import proofs.«01_k».proof.Proof.AttnValue
public import proofs.«01_k».proof.Proof.ExpertsFrames
public import proofs.«01_k».proof.Proof.ExpertsValue
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Pre_routed
public import Idealize.ShloMosaic.Adequacy
public import Idealize.ShloMosaic.Init

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Pre_finite.Gen.facts, Cert.Pre_routed.Gen.facts,
    Frames.printed_kernel, Frames.ideal_kernel, Frames.ideal_kernel_finite, Frames.ideal_reference,
    Frames.ideal_reference_finite, ExpertsFrames.printed_kernel, ExpertsFrames.ideal_kernel, ExpertsFrames.ideal_reference,
    ExpertsFrames.ideal_reference_routed, Frames.named, Value.algebraic, ExpertsFrames.named, Experts.algebraic⟩

end Cert.Proof

end
